-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_domain [hPre_domain : Cert.Pre_domain.Facts] (m : (ℓ : Loc Cert.KernelIdeal.nD Cert.KernelIdeal.τ Cert.KernelIdeal.sig) → Buf (Elt Ideal) ℓ) : Prop :=
  ∀ c : Dev Cert.KernelIdeal.nD,
    (Cert.Pre_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_domain [hPre_domain : Cert.Pre_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_domain [hKernelIdeal : Cert.KernelIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_domain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_domain [hReferenceIdeal : Cert.ReferenceIdeal.Facts] [hPre_domain : Cert.Pre_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pack.Statement Cert.KernelIdeal.S20x16384

def algebraic_KernelIdeal_ReferenceIdeal_pre_domain [hKernelIdeal : Cert.KernelIdeal.Facts] [hReferenceIdeal : Cert.ReferenceIdeal.Facts] [hPre_domain : Cert.Pre_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_domain : Cert.Pre_domain.Facts),
    quiescent_Kernel (hKernel := hKernel)
    ∧ quiescent_KernelIdeal (hKernelIdeal := hKernelIdeal)
    ∧ quiescent_KernelIdeal_pre_domain (hKernelIdeal := hKernelIdeal) (hPre_domain := hPre_domain)
    ∧ quiescent_ReferenceIdeal (hReferenceIdeal := hReferenceIdeal)
    ∧ quiescent_ReferenceIdeal_pre_domain (hReferenceIdeal := hReferenceIdeal) (hPre_domain := hPre_domain)
    ∧ preserves_Kernel_KernelIdeal
    ∧ algebraic_KernelIdeal_ReferenceIdeal_pre_domain (hKernelIdeal := hKernelIdeal) (hReferenceIdeal := hReferenceIdeal) (hPre_domain := hPre_domain)
-- ==== Pre_domain.lean ====
abbrev S1048576 : Shape := ⟨1, ![1048576]⟩
abbrev S19 : Shape := ⟨1, ![19]⟩
abbrev S20x64 : Shape := ⟨2, ![20, 64]⟩
abbrev S1 : Shape := ⟨1, ![1]⟩
abbrev S_ : Shape := ⟨0, ![]⟩
abbrev S18 : Shape := ⟨1, ![18]⟩

class Facts : Prop where
  slices_S19_S1_18 : S19.Slices ![18] S1
  shapeCasts_S1_S_ : S1.ShapeCasts S_
  bcast_S_S19 : S_.BroadcastsInDim S19 (![] : Fin 0 → Fin S19.rank)
  reducesTo_S19_S_d0 : S19.ReducesTo [0] S_
  h_S_ : 0 < S_.numel
  slices_S19_S18_1 : S19.Slices ![1] S18
  slices_S19_S18_0 : S19.Slices ![0] S18
  bcast_S_S18 : S_.BroadcastsInDim S18 (![] : Fin 0 → Fin S18.rank)
  reducesTo_S18_S_d0 : S18.ReducesTo [0] S_
  bcast_S_S20x64 : S_.BroadcastsInDim S20x64 (![] : Fin 0 → Fin S20x64.rank)
  reducesTo_S20x64_S_d0_1 : S20x64.ReducesTo [0, 1] S_
  bcast_S_S1048576 : S_.BroadcastsInDim S1048576 (![] : Fin 0 → Fin S1048576.rank)
  reducesTo_S1048576_S_d0 : S1048576.ReducesTo [0] S_

variable [Facts]

def fn_part1 {F : FTy → Type} [FloatOps F] (main_arg0 : FVec F S1048576 .f32) (main_v1 : FVec F S_ .f32) (main_v17 : IVec S_ 1) : IVec S_ 1 :=
  let main_cst_4 : FVec F S_ .f32 := constant S_ .f32 0x72177617#32
  let main_v18 : FVec F S1048576 .f32 := broadcastInDim S1048576 ![] bcast_S_S1048576 main_cst_4
  let main_v19 : FVec F S1048576 .f32 := addf main_arg0 main_v18
  let main_cst_5 : FVec F S_ .f32 := constant S_ .f32 0x3F800000#32
  let main_v20 : FVec F S1048576 .f32 := broadcastInDim S1048576 ![] bcast_S_S1048576 main_cst_5
  let main_v21 : IVec S1048576 1 := cmpf .oge main_v19 main_v20
  let main_c_6 : IVec S_ 1 := constantI S_ 1 1#1
  let main_v22 : IVec S_ 1 := (fun x v => Host.reduce IntOp.andi x v reducesTo_S1048576_S_d0 h_S_) main_v21 main_c_6
  let main_v23 : IVec S_ 1 := andi main_v17 main_v22
  let main_v24 : FVec F S1048576 .f32 := broadcastInDim S1048576 ![] bcast_S_S1048576 main_v1
  let main_v25 : IVec S1048576 1 := cmpf .ole main_arg0 main_v24
  let main_v26 : FVec F S1048576 .f32 := broadcastInDim S1048576 ![] bcast_S_S1048576 main_v1
  let main_v27 : FVec F S1048576 .f32 := subf main_arg0 main_v26
  let main_cst_7 : FVec F S_ .f32 := constant S_ .f32 0x7149F2CA#32
  let main_v28 : FVec F S1048576 .f32 := broadcastInDim S1048576 ![] bcast_S_S1048576 main_cst_7
  let main_v29 : FVec F S1048576 .f32 := mulf main_v27 main_v28
  let main_cst_8 : FVec F S_ .f32 := constant S_ .f32 0x3F800000#32
  let main_v30 : FVec F S1048576 .f32 := broadcastInDim S1048576 ![] bcast_S_S1048576 main_cst_8
  let main_v31 : IVec S1048576 1 := cmpf .oge main_v29 main_v30
  let main_v32 : IVec S1048576 1 := ori main_v25 main_v31
  let main_c_9 : IVec S_ 1 := constantI S_ 1 1#1
  let main_v33 : IVec S_ 1 := (fun x v => Host.reduce IntOp.andi x v reducesTo_S1048576_S_d0 h_S_) main_v32 main_c_9
  let main_v34 : IVec S_ 1 := andi main_v23 main_v33
  main_v34

def fn {F : FTy → Type} [FloatOps F] (main_arg0 : FVec F S1048576 .f32) (main_arg1 : FVec F S19 .f32) (main_arg2 : FVec F S20x64 .f32) : IVec S_ 1 :=
  let main_v0 : FVec F S1 .f32 := (extractStridedSlice S1 ![18] · slices_S19_S1_18) main_arg1
  let main_v1 : FVec F S_ .f32 := shapeCast S_ main_v0 shapeCasts_S1_S_
  let main_v2 : FVec F S19 .f32 := Host.absf main_arg1
  let main_cst : FVec F S_ .f32 := constant S_ .f32 0x7F800000#32
  let main_v3 : FVec F S19 .f32 := broadcastInDim S19 ![] bcast_S_S19 main_cst
  let main_v4 : IVec S19 1 := cmpf .olt main_v2 main_v3
  let main_c : IVec S_ 1 := constantI S_ 1 1#1
  let main_v5 : IVec S_ 1 := (fun x v => Host.reduce IntOp.andi x v reducesTo_S19_S_d0 h_S_) main_v4 main_c
  let main_v6 : FVec F S18 .f32 := (extractStridedSlice S18 ![1] · slices_S19_S18_1) main_arg1
  let main_v7 : FVec F S18 .f32 := (extractStridedSlice S18 ![0] · slices_S19_S18_0) main_arg1
  let main_v8 : FVec F S18 .f32 := subf main_v6 main_v7
  let main_cst_0 : FVec F S_ .f32 := constant S_ .f32 0x322BCC77#32
  let main_v9 : FVec F S18 .f32 := broadcastInDim S18 ![] bcast_S_S18 main_cst_0
  let main_v10 : IVec S18 1 := cmpf .oge main_v8 main_v9
  let main_c_1 : IVec S_ 1 := constantI S_ 1 1#1
  let main_v11 : IVec S_ 1 := (fun x v => Host.reduce IntOp.andi x v reducesTo_S18_S_d0 h_S_) main_v10 main_c_1
  let main_v12 : IVec S_ 1 := andi main_v5 main_v11
  let main_v13 : FVec F S20x64 .f32 := Host.absf main_arg2
  let main_cst_2 : FVec F S_ .f32 := constant S_ .f32 0x7F800000#32
  let main_v14 : FVec F S20x64 .f32 := broadcastInDim S20x64 ![] bcast_S_S20x64 main_cst_2
  let main_v15 : IVec S20x64 1 := cmpf .olt main_v13 main_v14
  let main_c_3 : IVec S_ 1 := constantI S_ 1 1#1
  let main_v16 : IVec S_ 1 := (fun x v => Host.reduce IntOp.andi x v reducesTo_S20x64_S_d0_1 h_S_) main_v15 main_c_3
  let main_v17 : IVec S_ 1 := andi main_v12 main_v16
  fn_part1 (F := F) main_arg0 main_v1 main_v17
-- ==== Kernel.lean ====
abbrev S1048576 : Shape := ⟨1, ![1048576]⟩
abbrev S19 : Shape := ⟨1, ![19]⟩
abbrev S20x64 : Shape := ⟨2, ![20, 64]⟩
abbrev S1x64 : Shape := ⟨2, ![1, 64]⟩
abbrev S19x64 : Shape := ⟨2, ![19, 64]⟩
abbrev S_ : Shape := ⟨0, ![]⟩
abbrev S60x64 : Shape := ⟨2, ![60, 64]⟩
abbrev S1 : Shape := ⟨1, ![1]⟩
abbrev S20 : Shape := ⟨1, ![20]⟩
abbrev S20x1 : Shape := ⟨2, ![20, 1]⟩
abbrev S18 : Shape := ⟨1, ![18]⟩
abbrev S64x1x16384 : Shape := ⟨3, ![64, 1, 16384]⟩
abbrev S1048576x64 : Shape := ⟨2, ![1048576, 64]⟩
abbrev S1x1x16384 : Shape := ⟨3, ![1, 1, 16384]⟩
abbrev S16384x64 : Shape := ⟨2, ![16384, 64]⟩
abbrev S1x16384 : Shape := ⟨2, ![1, 16384]⟩
abbrev S20x16384 : Shape := ⟨2, ![20, 16384]⟩
abbrev S60x16384 : Shape := ⟨2, ![60, 16384]⟩

abbrev nBuf : Space → Nat
  | .hbm => 47
  | .vmem => 7
  | .smem => 0
  | _ => 0

abbrev bufTy : (tb : Table) → Fin (tcTables nBuf tb) → BufTy
  | .hbm, ⟨0, _⟩ => ⟨S1048576, .f32⟩
  | .hbm, ⟨1, _⟩ => ⟨S19, .f32⟩
  | .hbm, ⟨2, _⟩ => ⟨S20x64, .f32⟩
  | .hbm, ⟨3, _⟩ => ⟨S1x64, .f32⟩
  | .hbm, ⟨4, _⟩ => ⟨S19x64, .f32⟩
  | .hbm, ⟨5, _⟩ => ⟨S19x64, .f32⟩
  | .hbm, ⟨6, _⟩ => ⟨S19x64, .f32⟩
  | .hbm, ⟨7, _⟩ => ⟨S20x64, .f32⟩
  | .hbm, ⟨8, _⟩ => ⟨S_, .f32⟩
  | .hbm, ⟨9, _⟩ => ⟨S20x64, .f32⟩
  | .hbm, ⟨10, _⟩ => ⟨S20x64, .f32⟩
  | .hbm, ⟨11, _⟩ => ⟨S20x64, .f32⟩
  | .hbm, ⟨12, _⟩ => ⟨S20x64, .f32⟩
  | .hbm, ⟨13, _⟩ => ⟨S20x64, .f32⟩
  | .hbm, ⟨14, _⟩ => ⟨S20x64, .f32⟩
  | .hbm, ⟨15, _⟩ => ⟨S20x64, .i1⟩
  | .hbm, ⟨16, _⟩ => ⟨S_, .f32⟩
  | .hbm, ⟨17, _⟩ => ⟨S20x64, .f32⟩
  | .hbm, ⟨18, _⟩ => ⟨S20x64, .f32⟩
  | .hbm, ⟨19, _⟩ => ⟨S_, .f32⟩
  | .hbm, ⟨20, _⟩ => ⟨S20x64, .f32⟩
  | .hbm, ⟨21, _⟩ => ⟨S20x64, .f32⟩
  | .hbm, ⟨22, _⟩ => ⟨S20x64, .f32⟩
  | .hbm, ⟨23, _⟩ => ⟨S20x64, .f32⟩
  | .hbm, ⟨24, _⟩ => ⟨S20x64, .f32⟩
  | .hbm, ⟨25, _⟩ => ⟨S20x64, .bf16⟩
  | .hbm, ⟨26, _⟩ => ⟨S20x64, .f32⟩
  | .hbm, ⟨27, _⟩ => ⟨S20x64, .bf16⟩
  | .hbm, ⟨28, _⟩ => ⟨S60x64, .bf16⟩
  | .hbm, ⟨29, _⟩ => ⟨S_, .f32⟩
  | .hbm, ⟨30, _⟩ => ⟨S1, .f32⟩
  | .hbm, ⟨31, _⟩ => ⟨S20, .f32⟩
  | .hbm, ⟨32, _⟩ => ⟨S20x1, .f32⟩
  | .hbm, ⟨33, _⟩ => ⟨S18, .f32⟩
  | .hbm, ⟨34, _⟩ => ⟨S18, .f32⟩
  | .hbm, ⟨35, _⟩ => ⟨S18, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S18, .f32⟩
  | .hbm, ⟨40, _⟩ => ⟨S18, .f32⟩
  | .hbm, ⟨41, _⟩ => ⟨S_, .f32⟩
  | .hbm, ⟨42, _⟩ => ⟨S1, .f32⟩
  | .hbm, ⟨43, _⟩ => ⟨S20, .f32⟩
  | .hbm, ⟨44, _⟩ => ⟨S20x1, .f32⟩
  | .hbm, ⟨45, _⟩ => ⟨S64x1x16384, .f32⟩
  | .hbm, ⟨46, _⟩ => ⟨S1048576x64, .f32⟩
  | .local _ .vmem, ⟨0, _⟩ => ⟨S1x1x16384, .f32⟩
  | .local _ .vmem, ⟨1, _⟩ => ⟨S1x1x16384, .f32⟩
  | .local _ .vmem, ⟨2, _⟩ => ⟨S20x1, .f32⟩
  | .local _ .vmem, ⟨3, _⟩ => ⟨S20x1, .f32⟩
  | .local _ .vmem, ⟨4, _⟩ => ⟨S60x64, .bf16⟩
  | .local _ .vmem, ⟨5, _⟩ => ⟨S16384x64, .f32⟩
  | .local _ .vmem, ⟨6, _⟩ => ⟨S16384x64, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_cst_5 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [BitOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S20x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S60x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16384x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F]
-- ==== ReferenceIdeal.lean ====
abbrev S1048576 : Shape := ⟨1, ![1048576]⟩
abbrev S19 : Shape := ⟨1, ![19]⟩
abbrev S20x64 : Shape := ⟨2, ![20, 64]⟩
abbrev S1x19 : Shape := ⟨2, ![1, 19]⟩
abbrev S1048576x1 : Shape := ⟨2, ![1048576, 1]⟩
abbrev S1048576x19 : Shape := ⟨2, ![1048576, 19]⟩
abbrev S_ : Shape := ⟨0, ![]⟩
abbrev S1 : Shape := ⟨1, ![1]⟩
abbrev S1x1 : Shape := ⟨2, ![1, 1]⟩
abbrev S1048576x64 : Shape := ⟨2, ![1048576, 64]⟩
abbrev S1x64 : Shape := ⟨2, ![1, 64]⟩
abbrev S64 : Shape := ⟨1, ![64]⟩

abbrev nBuf : Space → Nat
  | .hbm => 180
  | .vmem => 0
  | .smem => 0
  | _ => 0

abbrev hbmTy0_0 (i : Nat) : BufTy := match i % 128 with
  | 0 => ⟨S1048576, .f32⟩
  | 1 => ⟨S19, .f32⟩
  | 2 => ⟨S20x64, .f32⟩
  | 3 => ⟨S1x19, .f32⟩
  | 4 => ⟨S1048576x1, .f32⟩
  | 5 => ⟨S1048576x19, .f32⟩
  | 6 => ⟨S1048576x19, .f32⟩
  | 7 => ⟨S1048576x19, .i1⟩
  | 8 => ⟨S1048576x19, .i32⟩
  | 9 => ⟨S_, .i32⟩
  | 10 => ⟨S1048576, .i32⟩
  | 11 => ⟨S_, .i32⟩
  | 12 => ⟨S_, .i32⟩
  | 13 => ⟨S_, .i32⟩
  | 14 => ⟨S1048576, .i32⟩
  | 15 => ⟨S1048576, .i32⟩
  | 16 => ⟨S_, .i32⟩
  | 17 => ⟨S1048576, .i32⟩
  | 18 => ⟨S1048576, .i32⟩
  | 19 => ⟨S_, .i32⟩
  | 20 => ⟨S1048576, .i32⟩
  | 21 => ⟨S1048576, .i1⟩
  | 22 => ⟨S_, .i32⟩
  | 23 => ⟨S1048576, .i32⟩
  | 24 => ⟨S1048576, .i1⟩
  | 25 => ⟨S1048576, .i1⟩
  | 26 => ⟨S_, .i32⟩
  | 27 => ⟨S_, .i32⟩
  | 28 => ⟨S_, .i32⟩
  | 29 => ⟨S1048576, .i32⟩
  | 30 => ⟨S1048576, .i32⟩
  | 31 => ⟨S_, .i32⟩
  | 32 => ⟨S1048576, .i32⟩
  | 33 => ⟨S1048576, .i32⟩
  | 34 => ⟨S_, .i32⟩
  | 35 => ⟨S1048576, .i32⟩
  | 36 => ⟨S1048576, .i32⟩
  | 37 => ⟨S_, .i32⟩
  | 38 => ⟨S1048576, .i32⟩
  | 39 => ⟨S1048576, .i1⟩
  | 40 => ⟨S_, .i32⟩
  | 41 => ⟨S1048576, .i32⟩
  | 42 => ⟨S1048576, .i32⟩
  | 43 => ⟨S1048576, .i32⟩
  | 44 => ⟨S1048576x1, .i32⟩
  | 45 => ⟨S1, .i32⟩
  | 46 => ⟨S_, .i32⟩
  | 47 => ⟨S1048576x1, .i32⟩
  | 48 => ⟨S1048576x1, .i1⟩
  | 49 => ⟨S1x1, .i32⟩
  | 50 => ⟨S1048576x1, .i32⟩
  | 51 => ⟨S1048576x1, .i1⟩
  | 52 => ⟨S1048576x1, .i1⟩
  | 53 => ⟨S_, .i1⟩
  | 54 => ⟨S1048576, .i1⟩
  | 55 => ⟨S1048576, .f32⟩
  | 56 => ⟨S_, .f32⟩
  | 57 => ⟨S1048576, .f32⟩
  | 58 => ⟨S1048576, .f32⟩
  | 59 => ⟨S_, .i32⟩
  | 60 => ⟨S1048576, .i32⟩
  | 61 => ⟨S1048576, .i1⟩
  | 62 => ⟨S_, .i32⟩
  | 63 => ⟨S1048576, .i32⟩
  | 64 => ⟨S1048576, .i32⟩
  | 65 => ⟨S1048576, .i32⟩
  | 66 => ⟨S1048576x1, .i32⟩
  | 67 => ⟨S1, .i32⟩
  | 68 => ⟨S_, .i32⟩
  | 69 => ⟨S1048576x1, .i32⟩
  | 70 => ⟨S1048576x1, .i1⟩
  | 71 => ⟨S1x1, .i32⟩
  | 72 => ⟨S1048576x1, .i32⟩
  | 73 => ⟨S1048576x1, .i1⟩
  | 74 => ⟨S1048576x1, .i1⟩
  | 75 => ⟨S_, .i1⟩
  | 76 => ⟨S1048576, .i1⟩
  | 77 => ⟨S1048576, .f32⟩
  | 78 => ⟨S_, .f32⟩
  | 79 => ⟨S1048576, .f32⟩
  | 80 => ⟨S1048576, .f32⟩
  | 81 => ⟨S1048576, .f32⟩
  | 82 => ⟨S1048576, .f32⟩
  | 83 => ⟨S_, .f32⟩
  | 84 => ⟨S1048576, .f32⟩
  | 85 => ⟨S1048576, .i1⟩
  | 86 => ⟨S1048576, .f32⟩
  | 87 => ⟨S_, .f32⟩
  | 88 => ⟨S_, .f32⟩
  | 89 => ⟨S1048576, .f32⟩
  | 90 => ⟨S1048576, .f32⟩
  | 91 => ⟨S1048576, .f32⟩
  | 92 => ⟨S_, .f32⟩
  | 93 => ⟨S_, .f32⟩
  | 94 => ⟨S_, .f32⟩
  | 95 => ⟨S1048576, .f32⟩
  | 96 => ⟨S1048576, .f32⟩
  | 97 => ⟨S_, .f32⟩
  | 98 => ⟨S1048576, .f32⟩
  | 99 => ⟨S1048576, .f32⟩
  | 100 => ⟨S_, .f32⟩
  | 101 => ⟨S_, .f32⟩
  | 102 => ⟨S1048576, .f32⟩
  | 103 => ⟨S1048576, .f32⟩
  | 104 => ⟨S_, .i32⟩
  | 105 => ⟨S1048576, .i32⟩
  | 106 => ⟨S1048576, .i32⟩
  | 107 => ⟨S_, .i32⟩
  | 108 => ⟨S1048576, .i32⟩
  | 109 => ⟨S1048576, .i1⟩
  | 110 => ⟨S_, .i32⟩
  | 111 => ⟨S1048576, .i32⟩
  | 112 => ⟨S1048576, .i32⟩
  | 113 => ⟨S1048576, .i32⟩
  | 114 => ⟨S1048576x1, .i32⟩
  | 115 => ⟨S1, .i32⟩
  | 116 => ⟨S_, .i32⟩
  | 117 => ⟨S1048576x1, .i32⟩
  | 118 => ⟨S1048576x1, .i1⟩
  | 119 => ⟨S1x1, .i32⟩
  | 120 => ⟨S1048576x1, .i32⟩
  | 121 => ⟨S1048576x1, .i1⟩
  | 122 => ⟨S1048576x1, .i1⟩
  | 123 => ⟨S_, .i1⟩
  | 124 => ⟨S1048576, .i1⟩
  | 125 => ⟨S1048576x64, .f32⟩
  | 126 => ⟨S1048576x64, .i1⟩
  | 127 => ⟨S_, .f32⟩
  | _ => ⟨S1048576, .f32⟩

abbrev hbmTy0_1 (i : Nat) : BufTy := match i % 128 with
  | 0 => ⟨S1048576x64, .f32⟩
  | 1 => ⟨S1048576x64, .f32⟩
  | 2 => ⟨S_, .i32⟩
  | 3 => ⟨S1048576, .i32⟩
  | 4 => ⟨S1048576, .i1⟩
  | 5 => ⟨S_, .i32⟩
  | 6 => ⟨S1048576, .i32⟩
  | 7 => ⟨S1048576, .i32⟩
  | 8 => ⟨S1048576, .i32⟩
  | 9 => ⟨S1048576x1, .i32⟩
  | 10 => ⟨S1, .i32⟩
  | 11 => ⟨S_, .i32⟩
  | 12 => ⟨S1048576x1, .i32⟩
  | 13 => ⟨S1048576x1, .i1⟩
  | 14 => ⟨S1x1, .i32⟩
  | 15 => ⟨S1048576x1, .i32⟩
  | 16 => ⟨S1048576x1, .i1⟩
  | 17 => ⟨S1048576x1, .i1⟩
  | 18 => ⟨S_, .i1⟩
  | 19 => ⟨S1048576, .i1⟩
  | 20 => ⟨S1048576x64, .f32⟩
  | 21 => ⟨S1048576x64, .i1⟩
  | 22 => ⟨S_, .f32⟩
  | 23 => ⟨S1048576x64, .f32⟩
  | 24 => ⟨S1048576x64, .f32⟩
  | 25 => ⟨S_, .f32⟩
  | 26 => ⟨S1048576, .f32⟩
  | 27 => ⟨S1048576, .f32⟩
  | 28 => ⟨S1048576x1, .f32⟩
  | 29 => ⟨S1048576x64, .f32⟩
  | 30 => ⟨S1048576x64, .f32⟩
  | 31 => ⟨S1048576x1, .f32⟩
  | 32 => ⟨S1048576x64, .f32⟩
  | 33 => ⟨S1048576x64, .f32⟩
  | 34 => ⟨S1048576x64, .f32⟩
  | 35 => ⟨S1x64, .f32⟩
  | 36 => ⟨S64, .f32⟩
  | 37 => ⟨S1x64, .f32⟩
  | 38 => ⟨S1x64, .f32⟩
  | 39 => ⟨S64, .f32⟩
  | 40 => ⟨S1x64, .f32⟩
  | 41 => ⟨S1048576x1, .i1⟩
  | 42 => ⟨S_, .i32⟩
  | 43 => ⟨S1048576, .i32⟩
  | 44 => ⟨S1048576, .i1⟩
  | 45 => ⟨S1048576x1, .i1⟩
  | 46 => ⟨S1048576x64, .i1⟩
  | 47 => ⟨S1048576x64, .f32⟩
  | 48 => ⟨S1048576x64, .f32⟩
  | 49 => ⟨S1048576x64, .f32⟩
  | 50 => ⟨S1048576x64, .i1⟩
  | 51 => ⟨S1048576x64, .f32⟩
  | _ => ⟨S1048576, .f32⟩

abbrev hbmTy (i : Nat) : BufTy := match i / 128 with
  | 0 => hbmTy0_0 i
  | 1 => hbmTy0_1 i
  | _ => ⟨S1048576, .f32⟩

abbrev bufTy : (tb : Table) → Fin (tcTables nBuf tb) → BufTy
  | .hbm, ⟨i, _⟩ => hbmTy i
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_c_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_4 : Ref sig .tc := ⟨.hbm, 26, rfl⟩
abbrev main_c_5 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_c_6 : Ref sig .tc := ⟨.hbm, 34, rfl⟩
abbrev main_v14 : Ref sig .tc := ⟨.hbm, 35, rfl⟩
abbrev main_v15 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v16 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_cst : Ref sig .tc := ⟨.hbm, 78, rfl⟩
abbrev main_call3_v14 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_cst : Ref sig .tc := ⟨.hbm, 83, rfl⟩
abbrev main_v20 : Ref sig .tc := ⟨.hbm, 84, rfl⟩
abbrev main_v21 : Ref sig .tc := ⟨.hbm, 85, rfl⟩
abbrev main_v22 : Ref sig .tc := ⟨.hbm, 86, rfl⟩
abbrev main_cst_7 : Ref sig .tc := ⟨.hbm, 87, rfl⟩
abbrev main_call4_v0 : Ref sig .tc := ⟨.hbm, 88, rfl⟩
abbrev main_call4_v1 : Ref sig .tc := ⟨.hbm, 89, rfl⟩
abbrev main_v23 : Ref sig .tc := ⟨.hbm, 90, rfl⟩
abbrev main_v24 : Ref sig .tc := ⟨.hbm, 91, rfl⟩
abbrev main_cst_8 : Ref sig .tc := ⟨.hbm, 92, rfl⟩
abbrev main_cst_9 : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_v25 : Ref sig .tc := ⟨.hbm, 99, rfl⟩
abbrev main_cst_10 : Ref sig .tc := ⟨.hbm, 100, rfl⟩
abbrev main_call6_v0 : Ref sig .tc := ⟨.hbm, 101, rfl⟩
abbrev main_call6_v1 : Ref sig .tc := ⟨.hbm, 102, rfl⟩
abbrev main_v26 : Ref sig .tc := ⟨.hbm, 103, rfl⟩
abbrev main_c_11 : Ref sig .tc := ⟨.hbm, 104, rfl⟩
abbrev main_v27 : Ref sig .tc := ⟨.hbm, 105, rfl⟩
abbrev main_v28 : Ref sig .tc := ⟨.hbm, 106, rfl⟩
abbrev main_call7_c : Ref sig .tc := ⟨.hbm, 107, rfl⟩
abbrev main_call7_v0 : Ref sig .tc := ⟨.hbm, 108, rfl⟩
abbrev main_call7_v1 : Ref sig .tc := ⟨.hbm, 109, rfl⟩
abbrev main_call7_c_0 : Ref sig .tc := ⟨.hbm, 110, rfl⟩
abbrev main_call7_v2 : Ref sig .tc := ⟨.hbm, 111, rfl⟩
abbrev main_call7_v3 : Ref sig .tc := ⟨.hbm, 112, rfl⟩
abbrev main_call7_v4 : Ref sig .tc := ⟨.hbm, 113, rfl⟩
abbrev main_call7_v5 : Ref sig .tc := ⟨.hbm, 114, rfl⟩
abbrev main_call7_c_1 : Ref sig .tc := ⟨.hbm, 115, rfl⟩
abbrev main_call7_c_2 : Ref sig .tc := ⟨.hbm, 116, rfl⟩
abbrev main_call7_v6 : Ref sig .tc := ⟨.hbm, 117, rfl⟩
abbrev main_call7_v7 : Ref sig .tc := ⟨.hbm, 118, rfl⟩
abbrev main_call7_v8 : Ref sig .tc := ⟨.hbm, 119, rfl⟩
abbrev main_call7_v9 : Ref sig .tc := ⟨.hbm, 120, rfl⟩
abbrev main_call7_v10 : Ref sig .tc := ⟨.hbm, 121, rfl⟩
abbrev main_call7_v11 : Ref sig .tc := ⟨.hbm, 122, rfl⟩
abbrev main_call7_c_3 : Ref sig .tc := ⟨.hbm, 123, rfl⟩
abbrev main_call7_v12 : Ref sig .tc := ⟨.hbm, 124, rfl⟩
abbrev main_call7_v13 : Ref sig .tc := ⟨.hbm, 125, rfl⟩
abbrev main_call7_v14 : Ref sig .tc := ⟨.hbm, 126, rfl⟩
abbrev main_call7_cst : Ref sig .tc := ⟨.hbm, 127, rfl⟩
abbrev main_call7_v15 : Ref sig .tc := ⟨.hbm, 128, rfl⟩
abbrev main_v29 : Ref sig .tc := ⟨.hbm, 129, rfl⟩
abbrev main_call8_c : Ref sig .tc := ⟨.hbm, 130, rfl⟩
abbrev main_call8_v0 : Ref sig .tc := ⟨.hbm, 131, rfl⟩
abbrev main_call8_v1 : Ref sig .tc := ⟨.hbm, 132, rfl⟩
abbrev main_call8_c_0 : Ref sig .tc := ⟨.hbm, 133, rfl⟩
abbrev main_call8_v2 : Ref sig .tc := ⟨.hbm, 134, rfl⟩
abbrev main_call8_v3 : Ref sig .tc := ⟨.hbm, 135, rfl⟩
abbrev main_call8_v4 : Ref sig .tc := ⟨.hbm, 136, rfl⟩
abbrev main_call8_v5 : Ref sig .tc := ⟨.hbm, 137, rfl⟩
abbrev main_call8_c_1 : Ref sig .tc := ⟨.hbm, 138, rfl⟩
abbrev main_call8_c_2 : Ref sig .tc := ⟨.hbm, 139, rfl⟩
abbrev main_call8_v6 : Ref sig .tc := ⟨.hbm, 140, rfl⟩
abbrev main_call8_v7 : Ref sig .tc := ⟨.hbm, 141, rfl⟩
abbrev main_call8_v8 : Ref sig .tc := ⟨.hbm, 142, rfl⟩
abbrev main_call8_v9 : Ref sig .tc := ⟨.hbm, 143, rfl⟩
abbrev main_call8_v10 : Ref sig .tc := ⟨.hbm, 144, rfl⟩
abbrev main_call8_v11 : Ref sig .tc := ⟨.hbm, 145, rfl⟩
abbrev main_call8_c_3 : Ref sig .tc := ⟨.hbm, 146, rfl⟩
abbrev main_call8_v12 : Ref sig .tc := ⟨.hbm, 147, rfl⟩
abbrev main_call8_v13 : Ref sig .tc := ⟨.hbm, 148, rfl⟩
abbrev main_call8_v14 : Ref sig .tc := ⟨.hbm, 149, rfl⟩
abbrev main_call8_cst : Ref sig .tc := ⟨.hbm, 150, rfl⟩
abbrev main_call8_v15 : Ref sig .tc := ⟨.hbm, 151, rfl⟩
abbrev main_v30 : Ref sig .tc := ⟨.hbm, 152, rfl⟩
abbrev main_cst_12 : Ref sig .tc := ⟨.hbm, 153, rfl⟩
abbrev main_v31 : Ref sig .tc := ⟨.hbm, 154, rfl⟩
abbrev main_v32 : Ref sig .tc := ⟨.hbm, 155, rfl⟩
abbrev main_v33 : Ref sig .tc := ⟨.hbm, 156, rfl⟩
abbrev main_v34 : Ref sig .tc := ⟨.hbm, 157, rfl⟩
abbrev main_v35 : Ref sig .tc := ⟨.hbm, 158, rfl⟩
abbrev main_v36 : Ref sig .tc := ⟨.hbm, 159, rfl⟩
abbrev main_v37 : Ref sig .tc := ⟨.hbm, 160, rfl⟩
abbrev main_v38 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_v43 : Ref sig .tc := ⟨.hbm, 166, rfl⟩
abbrev main_v44 : Ref sig .tc := ⟨.hbm, 167, rfl⟩
abbrev main_v45 : Ref sig .tc := ⟨.hbm, 168, rfl⟩
abbrev main_v46 : Ref sig .tc := ⟨.hbm, 169, rfl⟩
abbrev main_c_13 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_call9_v0 : Ref sig .tc := ⟨.hbm, 174, rfl⟩
abbrev main_call9_v1 : Ref sig .tc := ⟨.hbm, 175, rfl⟩
abbrev main_call9_v2 : Ref sig .tc := ⟨.hbm, 176, rfl⟩
abbrev main_v50 : Ref sig .tc := ⟨.hbm, 177, rfl⟩
abbrev main_call10_v0 : Ref sig .tc := ⟨.hbm, 178, rfl⟩
abbrev main_v51 : Ref sig .tc := ⟨.hbm, 179, rfl⟩

abbrev nD : Nat := 1
abbrev τ : Topo := Topo.v7x

variable {F : FTy → Type} [FloatOps F]
-- ==== Proof.Ramp.lean ====
/- The arithmetic of the two programs, free of both: a ramp per bin, clipped to [0, 1]; the sum of the ramps against the
   successive differences of a column, which telescopes to an interpolation between two neighbouring entries. -/
module

public import Idealize.ShloMosaic.PureOps.Ideal
public import Idealize.ShloMosaic.PureOps.Ideal.Laws
public import Mathlib.Algebra.BigOperators.Fin
public import Idealize.ShloMosaic.Lib.Pointwise

@[expose] public section

noncomputable section

namespace Cert.Ramp

open Idealize.ShloMosaic

/-! ## Clipping to [0, 1] -/

/-- An extended real clipped to the unit interval, spelled as both programs spell it. -/
def clip (x : EReal) : EReal := min 1 (max 0 x)

/-- From 1 upwards the clipped value is 1. -/
theorem clip_of_one_le {x : EReal} (h : 1 ≤ x) : clip x = 1 := min_eq_left (h.trans (le_max_right _ _))

/-- From 0 downwards the clipped value is 0. -/
theorem clip_of_nonpos {x : EReal} (h : x ≤ 0) : clip x = 0 := by
  unfold clip
  rw [max_eq_left h]
  exact min_eq_right zero_le_one

/-- A clipped value is a real number, whatever was clipped. -/
theorem clip_coe (x : EReal) : ((clip x).toReal : EReal) = clip x := by
  have h0 : (0 : EReal) ≤ clip x := le_min zero_le_one (le_max_left _ _)
  have h1 : clip x ≤ 1 := min_le_left _ _
  refine EReal.coe_toReal (fun h => ?_) (fun h => ?_)
  · rw [h] at h1
    exact absurd h1 (by decide)
  · rw [h] at h0
    exact absurd h0 (by decide)

/-! ## One ramp -/

/-- The ideal quotient by a nonzero real is the product with the real's inverse. -/
theorem div_coe (x : EReal) {g : ℝ} (hg : g ≠ 0) : Ideal.div x (g : EReal) = x * ((g⁻¹ : ℝ) : EReal) := by
  unfold Ideal.div
  rw [if_neg (by exact_mod_cast hg), EReal.coe_inv]

/-- A difference from a real, scaled by a positive real, is at least 1 once the minuend exceeds the real by the scale's
    inverse. -/
theorem one_le_scaled {v : EReal} {a g : ℝ} (hg : 0 < g) (hv : ((a + g : ℝ) : EReal) ≤ v) :
    1 ≤ (v - (a : EReal)) * ((g⁻¹ : ℝ) : EReal) := by
  induction v with
  | bot => exact absurd hv (by simp)
  | top =>
    rw [EReal.top_sub_coe, EReal.top_mul_coe_of_pos (inv_pos.mpr hg)]
    exact le_top
  | coe x =>
    have hx : a + g ≤ x := by exact_mod_cast hv
    rw [← EReal.coe_sub, ← EReal.coe_mul]
    have : (1 : ℝ) ≤ (x - a) * g⁻¹ := by
      rw [← div_eq_mul_inv, le_div_iff₀ hg]
      linarith
    exact_mod_cast this

/-- A difference from a real that is not positive stays so under a positive real scale. -/
theorem scaled_nonpos {v : EReal} {a s : ℝ} (hs : 0 < s) (hb : v ≠ ⊥) (hv : v ≤ (a : EReal)) :
    (v - (a : EReal)) * (s : EReal) ≤ 0 := by
  induction v with
  | bot => exact absurd rfl hb
  | top => exact absurd hv (by simp)
  | coe x =>
    have hx : x ≤ a := by exact_mod_cast hv
    rw [← EReal.coe_sub, ← EReal.coe_mul]
    have : (x - a) * s ≤ 0 := mul_nonpos_of_nonpos_of_nonneg (by linarith) hs.le
    exact_mod_cast this

/-! ## Counting the boundaries below a value -/

/-- Of an increasing list of nineteen boundaries those below a value are the first `k`, for one `k ≤ 19`. -/
theorem exists_count (b : Fin 19 → EReal) (hb : Monotone b) (v : EReal) :
    ∃ k, k ≤ 19 ∧ ∀ j : Fin 19, b j < v ↔ j.val < k := by
  classical
  have hex : ∃ k, ∀ j : Fin 19, k ≤ j.val → ¬ b j < v := ⟨19, fun j hj => absurd j.isLt (by omega)⟩
  refine ⟨Nat.find hex, Nat.find_le (fun j hj => absurd j.isLt (by omega)), fun j => ⟨fun h => ?_, fun h => ?_⟩⟩
  · by_contra hc
    exact Nat.find_spec hex j (by omega) h
  · by_contra hc
    refine Nat.find_min hex h fun i hi hlt => hc ?_
    exact lt_of_le_of_lt (hb (show j ≤ i from hi)) hlt

/-! ## The sum of the ramps -/

/-- A sum of weights against successive differences, the weights 1 before place `k` and 0 after it: the entry before
    place `k` and the `k`-th weight's part of the last difference. -/
theorem sum_steps (t w d : ℕ → ℝ) (h0 : d 0 = t 0) (hd : ∀ j, d (j + 1) = t (j + 1) - t j) {n k : ℕ} (hk : k < n)
    (hone : ∀ j, j < k → w j = 1) (hzero : ∀ j, k < j → w j = 0) :
    ∑ j ∈ Finset.range n, w j * d j = if k = 0 then w 0 * t 0 else t (k - 1) + w k * (t k - t (k - 1)) := by
  have htel : ∀ i, ∑ j ∈ Finset.range (i + 1), d j = t i := by
    intro i
    induction i with
    | zero => rw [Finset.sum_range_one, h0]
    | succ i ih => rw [Finset.sum_range_succ, ih, hd]; ring
  have hcut : ∑ j ∈ Finset.range n, w j * d j = ∑ j ∈ Finset.range (k + 1), w j * d j := by
    refine (Finset.sum_subset (Finset.range_mono hk) fun j _ hj => ?_).symm
    rw [Finset.mem_range, not_lt] at hj
    rw [hzero j (by omega), zero_mul]
  rw [hcut, Finset.sum_range_succ]
  have hpre : ∑ j ∈ Finset.range k, w j * d j = ∑ j ∈ Finset.range k, d j :=
    Finset.sum_congr rfl fun j hj => by rw [hone j (Finset.mem_range.mp hj), one_mul]
  rw [hpre]
  cases k with
  | zero => rw [Finset.sum_range_zero, zero_add, h0, if_pos rfl]
  | succ i => rw [htel i, hd, if_neg (Nat.succ_ne_zero i), Nat.add_sub_cancel]

end Cert.Ramp

end
-- ==== Proof.Lookup.lean ====
/- The interpolation that both programs compute, for one value and one column of the table, and why the kernel's twenty
   ramps sum to it. -/
module

public import proofs.«01_k».proof.Proof.Ramp

@[expose] public section

noncomputable section

namespace Cert.Lookup

open Idealize.ShloMosaic Cert.Ramp

/-! ## The literals -/

/-- The literal -3e30 as a real: the negative of the literal 3e30, exactly. -/
theorem lit_low : ∃ M : ℝ, Ideal.ofBits .f32 0x72177617#32 = (M : EReal) ∧ Ideal.ofBits .f32 0xF2177617#32 = ((-M : ℝ) : EReal) := by
  refine ⟨(2 ^ 23 + 1537559 : ℕ) * (2 : ℝ) ^ (78 : ℤ), ?_, ?_⟩
  · simp [Ideal.ofBits, Ideal.ieee, -EReal.coe_mul]
  · simp [Ideal.ofBits, Ideal.ieee, -EReal.coe_mul, -EReal.coe_neg]

/-- The literal 1e30 is a positive real. -/
theorem lit_high : ∃ H : ℝ, 0 < H ∧ Ideal.ofBits .f32 0x7149F2CA#32 = (H : EReal) := by
  refine ⟨(2 ^ 23 + 4846282 : ℕ) * (2 : ℝ) ^ (76 : ℤ), by positivity, ?_⟩
  simp [Ideal.ofBits, Ideal.ieee, -EReal.coe_mul]

/-- The literal 1e-8 is a positive real. -/
theorem lit_gap : ∃ e : ℝ, 0 < e ∧ Ideal.ofBits .f32 0x322BCC77#32 = (e : EReal) := by
  refine ⟨(2 ^ 23 + 2870391 : ℕ) * (2 : ℝ) ^ (-50 : ℤ), by positivity, ?_⟩
  simp [Ideal.ofBits, Ideal.ieee, -EReal.coe_mul]

/-- The literal 65537 is a real. -/
theorem lit_split : ∃ s : ℝ, Ideal.ofBits .f32 0x47800080#32 = (s : EReal) := by
  refine ⟨(2 ^ 23 + 128 : ℕ) * (2 : ℝ) ^ (-7 : ℤ), ?_⟩
  simp [Ideal.ofBits, Ideal.ieee, -EReal.coe_mul]

/-! ## The specification -/

/-- How far the value stands between boundary `k` and the next one, clipped. -/
def frac (b : Fin 19 → EReal) (v : EReal) (k : ℕ) (hk : k < 18) : EReal :=
  clip (Ideal.div (v - b ⟨k, by omega⟩) (b ⟨k + 1, by omega⟩ - b ⟨k, by omega⟩))

/-- The looked-up entry of one column, for a value that exceeds exactly the first `k` boundaries: the first entry, the
    last entry, or the interpolation between two neighbours. -/
def entry (b : Fin 19 → EReal) (t : Fin 20 → EReal) (v : EReal) : ℕ → EReal
  | 0 => t 0
  | k + 1 => if hk : k < 18 then (1 - frac b v k hk) * t ⟨k, by omega⟩ + frac b v k hk * t ⟨k + 1, by omega⟩ else t 19

/-! ## The kernel's side -/

/-- Where ramp `j` starts. -/
def start (b : Fin 19 → EReal) : ℕ → EReal
  | 0 => Ideal.ofBits .f32 0xF2177617#32
  | k + 1 => if hk : k < 19 then b ⟨k, hk⟩ else 0

/-- The rate of ramp `j`. -/
def rate (b : Fin 19 → EReal) : ℕ → EReal
  | 0 => 1
  | k + 1 => if hk : k < 18 then Ideal.div 1 (b ⟨k + 1, by omega⟩ - b ⟨k, by omega⟩) else Ideal.ofBits .f32 0x7149F2CA#32

/-- Ramp `j` at a value. -/
def ramp (b : Fin 19 → EReal) (v : EReal) (j : ℕ) : EReal := clip ((v - start b j) * rate b j)

/-- The difference of a column's entry `j` from the one before it; the first entry itself. -/
def step (t : Fin 20 → EReal) : ℕ → EReal
  | 0 => t 0
  | k + 1 => if hk : k < 19 then t ⟨k + 1, by omega⟩ - t ⟨k, by omega⟩ else 0

/-- What the domain says of one value against the boundaries, the literals spelled as words: real boundaries at least 1e-8
    apart, a value above -3e30 by 1 or more, and either not above the last boundary or above it by 1e-30 or more. -/
structure Tame (b : Fin 19 → EReal) (v : EReal) : Prop where
  real : ∀ k, ∃ r : ℝ, b k = (r : EReal)
  gap : ∀ k (hk : k < 18), Ideal.ofBits .f32 0x322BCC77#32 ≤ b ⟨k + 1, by omega⟩ - b ⟨k, by omega⟩
  low : 1 ≤ v + Ideal.ofBits .f32 0x72177617#32
  top : v ≤ b 18 ∨ 1 ≤ (v - b 18) * Ideal.ofBits .f32 0x7149F2CA#32

variable {b : Fin 19 → EReal} {v : EReal}

/-- A tame value is not minus infinity. -/
theorem Tame.ne_bot (h : Tame b v) : v ≠ ⊥ := by
  rintro rfl
  have := h.low
  rw [EReal.bot_add] at this
  exact absurd this (by decide)

/-- Two neighbouring boundaries as reals, the second the first plus a positive gap. -/
theorem Tame.pair (h : Tame b v) (k : ℕ) (hk : k < 18) :
    ∃ a g : ℝ, 0 < g ∧ b ⟨k, by omega⟩ = (a : EReal) ∧ b ⟨k + 1, by omega⟩ = ((a + g : ℝ) : EReal)
      ∧ b ⟨k + 1, by omega⟩ - b ⟨k, by omega⟩ = (g : EReal) := by
  obtain ⟨a, ha⟩ := h.real ⟨k, by omega⟩
  obtain ⟨a', ha'⟩ := h.real ⟨k + 1, by omega⟩
  obtain ⟨e, he, hlit⟩ := lit_gap
  have hg := h.gap k hk
  rw [ha, ha', hlit, ← EReal.coe_sub, EReal.coe_le_coe_iff] at hg
  refine ⟨a, a' - a, by linarith, ha, by rw [ha']; congr 1; ring, by rw [ha, ha', EReal.coe_sub]⟩

/-- The boundaries increase. -/
theorem Tame.mono (h : Tame b v) : Monotone b := by
  refine Fin.monotone_iff_le_succ.mpr fun i => ?_
  obtain ⟨a, g, hg, h0, h1, -⟩ := h.pair i.val i.isLt
  show b ⟨i.val, _⟩ ≤ b ⟨i.val + 1, _⟩
  rw [h0, h1, EReal.coe_le_coe_iff]
  linarith

variable {k : ℕ}

/-- The coercion of a finite sum of reals is the sum of the coercions. -/
theorem coe_sum_fin {n : ℕ} (f : Fin n → ℝ) : ((∑ j, f j : ℝ) : EReal) = ∑ j, (f j : EReal) := by
  induction n with
  | zero => simp
  | succ n ih => rw [Fin.sum_univ_succ, Fin.sum_univ_succ, EReal.coe_add, ih]

/-- A ramp that ends at or below the value is 1 there; so is the first one. -/
theorem ramp_before (h : Tame b v) (hk : ∀ j : Fin 19, b j < v ↔ j.val < k) {j : ℕ} (hj : j < 20)
    (hjk : j = 0 ∨ j < k ∨ (j = 19 ∧ k = 19)) : ramp b v j = 1 := by
  refine clip_of_one_le ?_
  cases j with
  | zero =>
    obtain ⟨M, hM, hM'⟩ := lit_low
    have := h.low
    rw [hM] at this
    show 1 ≤ (v - Ideal.ofBits .f32 0xF2177617#32) * 1
    rwa [mul_one, hM', sub_eq_add_neg, ← EReal.coe_neg, neg_neg]
  | succ i =>
    by_cases hi : i < 18
    · obtain ⟨a, g, hg, h0, h1, hd⟩ := h.pair i hi
      have hlt : b ⟨i + 1, by omega⟩ < v := (hk _).mpr (by show i + 1 < k; omega)
      simp only [start, rate, dif_pos hi, dif_pos (show i < 19 by omega)]
      rw [hd, div_coe _ hg.ne', one_mul, h0]
      exact one_le_scaled hg (h1 ▸ hlt.le)
    · obtain rfl : i = 18 := by omega
      have hlt : b 18 < v := (hk 18).mpr (by show 18 < k; omega)
      exact h.top.resolve_left (not_le.mpr hlt)

/-- A ramp that starts at or above the value is 0 there. -/
theorem ramp_after (h : Tame b v) (hk : ∀ j : Fin 19, b j < v ↔ j.val < k) {j : ℕ} (hj : j < 20) (hjk : k < j) :
    ramp b v j = 0 := by
  refine clip_of_nonpos ?_
  cases j with
  | zero => omega
  | succ i =>
    by_cases hi : i < 18
    · obtain ⟨a, g, hg, h0, h1, hd⟩ := h.pair i hi
      have hle : v ≤ b ⟨i, by omega⟩ := not_lt.mp fun hc => absurd ((hk _).mp hc) (by show ¬ i < k; omega)
      simp only [start, rate, dif_pos hi, dif_pos (show i < 19 by omega)]
      rw [hd, div_coe _ hg.ne', one_mul, h0]
      exact scaled_nonpos (inv_pos.mpr hg) h.ne_bot (h0 ▸ hle)
    · obtain rfl : i = 18 := by omega
      have hle : v ≤ b 18 := not_lt.mp fun hc => absurd ((hk 18).mp hc) (by show ¬ 18 < k; omega)
      obtain ⟨a, ha⟩ := h.real 18
      obtain ⟨H, hH, hlit⟩ := lit_high
      show (v - b 18) * Ideal.ofBits .f32 0x7149F2CA#32 ≤ 0
      rw [ha, hlit]
      exact scaled_nonpos hH h.ne_bot (ha ▸ hle)

/-- The ramp the value stands on is its fraction of the way between the two boundaries. -/
theorem ramp_on (h : Tame b v) (i : ℕ) (hi : i < 18) : ramp b v (i + 1) = frac b v i hi := by
  obtain ⟨a, g, hg, h0, h1, hd⟩ := h.pair i hi
  unfold ramp frac
  simp only [start, rate, dif_pos hi, dif_pos (show i < 19 by omega)]
  rw [hd, div_coe _ hg.ne', div_coe _ hg.ne', one_mul]

/-- THE EQUATION: the ramps against a real column's steps sum to the looked-up entry. -/
theorem sum_ramps (h : Tame b v) (hk : ∀ j : Fin 19, b j < v ↔ j.val < k) (hk19 : k ≤ 19) (t : Fin 20 → EReal)
    (ht : ∀ j, ∃ r : ℝ, t j = (r : EReal)) : ∑ j : Fin 20, ramp b v j.val * step t j.val = entry b t v k := by
  choose τ hτ using ht
  have hT : ∀ j, t j = (τ j : EReal) := hτ
  -- the ramps and the steps as sequences of reals
  let w : ℕ → ℝ := fun j => (ramp b v j).toReal
  have hw : ∀ j, ramp b v j = (w j : EReal) := fun j => (clip_coe _).symm
  let s : ℕ → ℝ := fun j => if hj : j < 20 then τ ⟨j, hj⟩ else 0
  let d : ℕ → ℝ := fun j => match j with | 0 => s 0 | i + 1 => s (i + 1) - s i
  have hs : ∀ j (hj : j < 20), t ⟨j, hj⟩ = (s j : EReal) := fun j hj => by simp only [s, dif_pos hj, hT]
  have hd : ∀ j, j < 20 → step t j = (d j : EReal) := by
    intro j hj
    cases j with
    | zero => exact hs 0 hj
    | succ i =>
      simp only [step, dif_pos (show i < 19 by omega), d]
      rw [hs (i + 1) hj, hs i (by omega), EReal.coe_sub]
  have hone : ∀ j, j < k → w j = 1 := fun j hj => by
    have := ramp_before h hk (j := j) (by omega) (Or.inr (Or.inl hj))
    rw [hw] at this
    exact_mod_cast this
  let w' : ℕ → ℝ := fun j => if j < 20 then w j else 0
  have hzero : ∀ j, k < j → w' j = 0 := fun j hj => by
    by_cases hj20 : j < 20
    · have := ramp_after h hk hj20 hj
      rw [hw] at this
      simp only [w', if_pos hj20]
      exact_mod_cast this
    · simp only [w', if_neg hj20]
  have hsum : ∑ j : Fin 20, ramp b v j.val * step t j.val = ((∑ j ∈ Finset.range 20, w' j * d j : ℝ) : EReal) := by
    rw [← Fin.sum_univ_eq_sum_range (fun j => w' j * d j) 20, coe_sum_fin]
    refine Finset.sum_congr rfl fun j _ => ?_
    rw [hw, hd j.val j.isLt, ← EReal.coe_mul]
    simp only [w', if_pos j.isLt]
  rw [hsum, sum_steps s w' d rfl (fun j => rfl) (show k < 20 by omega)
    (fun j hj => by simp only [w', if_pos (show j < 20 by omega)]; exact hone j hj) hzero]
  have hw' : w' k = w k := by simp only [w', if_pos (show k < 20 by omega)]
  cases k with
  | zero =>
    have h1 : w 0 = 1 := by
      have := ramp_before h hk (j := 0) (by omega) (Or.inl rfl)
      rw [hw] at this
      exact_mod_cast this
    rw [if_pos rfl, hw', h1, one_mul]
    exact (hs 0 (by omega)).symm
  | succ i =>
    rw [if_neg (Nat.succ_ne_zero i), Nat.add_sub_cancel, hw']
    by_cases hi : i < 18
    · simp only [entry, dif_pos hi]
      rw [← ramp_on h i hi, hw, hs i (by omega), hs (i + 1) (by omega), ← EReal.coe_one, ← EReal.coe_sub, ← EReal.coe_mul,
        ← EReal.coe_mul, ← EReal.coe_add]
      congr 1
      ring
    · obtain rfl : i = 18 := by omega
      have h1 : w 19 = 1 := by
        have := ramp_before h hk (j := 19) (by omega) (Or.inr (Or.inr ⟨rfl, rfl⟩))
        rw [hw] at this
        exact_mod_cast this
      rw [h1]
      simp only [entry]
      rw [dif_neg (by omega)]
      refine Eq.trans ?_ (hs 19 (by omega)).symm
      congr 1
      ring

/-! ## The whole lookup -/

/-- How many boundaries lie below the value. -/
def count (b : Fin 19 → EReal) (v : EReal) : ℕ := (Finset.univ.filter fun j => b j < v).card

/-- What both programs compute for one value and one column of the table. -/
def lookup (b : Fin 19 → EReal) (t : Fin 20 → EReal) (v : EReal) : EReal := entry b t v (count b v)

/-- With increasing boundaries the ones below the value are the first `count` ones. -/
theorem count_spec (hb : Monotone b) (v : EReal) : count b v ≤ 19 ∧ ∀ j : Fin 19, b j < v ↔ j.val < count b v := by
  obtain ⟨k, hk, h⟩ := exists_count b hb v
  have : count b v = k := by
    unfold count
    rw [Finset.filter_congr fun j _ => h j, Fin.card_filter_val_lt, Nat.min_eq_right hk]
  rw [this]
  exact ⟨hk, h⟩

/-- The ramps against a real column's steps sum to the lookup. -/
theorem sum_ramps_lookup (h : Tame b v) (t : Fin 20 → EReal) (ht : ∀ j, ∃ r : ℝ, t j = (r : EReal)) :
    ∑ j : Fin 20, ramp b v j.val * step t j.val = lookup b t v :=
  sum_ramps h (count_spec h.mono v).2 (count_spec h.mono v).1 t ht

/-- The steps of a real column are real. -/
theorem step_real (t : Fin 20 → EReal) (ht : ∀ j, ∃ r : ℝ, t j = (r : EReal)) (j : ℕ) : ∃ r : ℝ, step t j = (r : EReal) := by
  choose τ hτ using ht
  cases j with
  | zero => exact ⟨τ 0, hτ 0⟩
  | succ i =>
    by_cases hi : i < 19
    · exact ⟨τ ⟨i + 1, by omega⟩ - τ ⟨i, by omega⟩, by rw [step, dif_pos hi, hτ, hτ, EReal.coe_sub]⟩
    · exact ⟨0, by rw [step, dif_neg hi, EReal.coe_zero]⟩

/-- What the domain says of the three arguments. -/
structure Fit {n m : ℕ} (x : Fin n → EReal) (b : Fin 19 → EReal) (T : Fin m → Fin 20 → EReal) : Prop where
  tame : ∀ p, Tame b (x p)
  real : ∀ l j, ∃ r : ℝ, T l j = (r : EReal)

end Cert.Lookup

end
-- ==== Proof.Domain.lean ====
/- What the precondition says of the three arrays, element by element. -/
module

public import proofs.«01_k».proof.Proof.Gen.Pre_domain
public import proofs.«01_k».proof.Proof.Lookup
public import Idealize.ShloMosaic.Lib.ReduceAll
public import Idealize.ShloMosaic.Lib.Pointwise

@[expose] public section

set_option maxRecDepth 16384

noncomputable section

namespace Cert.Domain

open Cert.Pre_domain Cert.Pre_domain.Gen Cert.Lookup Idealize.ShloMosaic

/-- A bit made of a decided proposition is 1 only when the proposition holds. -/
theorem of_bit {P : Prop} [Decidable P] (h : BitVec.ofBool (decide P) = 1#1) : P := by
  by_contra hP
  rw [decide_eq_false hP] at h
  exact absurd h (by decide)

/-- The literal plus infinity. -/
theorem lit_inf : Ideal.ofBits .f32 0x7F800000#32 = ⊤ := by simp [Ideal.ofBits, Ideal.ieee]

/-- A number whose absolute value is below plus infinity is a real. -/
theorem real_of_abs {x : EReal} (h : max x (-x) < Ideal.ofBits .f32 0x7F800000#32) : ∃ r : ℝ, x = (r : EReal) := by
  rw [lit_inf] at h
  induction x with
  | bot => exact absurd h (by simp)
  | top => exact absurd h (by simp)
  | coe r => exact ⟨r, rfl⟩

instance : Subsingleton S_.Idx := ⟨fun a b => funext fun i => i.elim0⟩

variable (x : FVec Ideal S1048576 .f32) (b : FVec Ideal S19 .f32) (T : FVec Ideal S20x64 .f32)

/-- The precondition, read element by element. -/
theorem fit (h : fn (F := Ideal) x b T = fun _ => 1#1) :
    Fit (fun p : Fin 1048576 => (x (ix1 p) : EReal)) (fun k => (b (ix1 k) : EReal)) (fun (l : Fin 64) j => (T (ix2 j l) : EReal)) := by
  have e := congrFun h ix0
  unfold fn fn_part1 at e
  obtain ⟨e1, hTop⟩ := IntOp.andi_eq_one.1 e
  obtain ⟨e2, hLow⟩ := IntOp.andi_eq_one.1 e1
  obtain ⟨e3, hTab⟩ := IntOp.andi_eq_one.1 e2
  obtain ⟨hReal, hGap⟩ := IntOp.andi_eq_one.1 e3
  clear e e1 e2 e3
  have hReal' : ∀ k : Fin 19, ∃ r : ℝ, (b (ix1 k) : EReal) = (r : EReal) := fun k => by
    have e := Host.reduce_andi_all _ _ _ _ _ hReal (ix1 k)
    refine real_of_abs (of_bit (Eq.trans ?_ e))
    pointwise
    rfl
  have hTab' : ∀ (l : Fin 64) (j : Fin 20), ∃ r : ℝ, (T (ix2 j l) : EReal) = (r : EReal) := fun l j => by
    have e := Host.reduce_andi_all _ _ _ _ _ hTab (ix2 j l)
    refine real_of_abs (of_bit (Eq.trans ?_ e))
    pointwise
    rfl
  refine ⟨fun p => ⟨hReal', fun k hk => ?_, ?_, ?_⟩, hTab'⟩
  · have e := Host.reduce_andi_all _ _ _ _ _ hGap (ix1 ⟨k, hk⟩)
    refine of_bit (Eq.trans ?_ e)
    clear e hTop hLow hTab hReal hGap
    pointwise
    simp only [Nat.add_comm 1 k]
  · have e := Host.reduce_andi_all _ _ _ _ _ hLow (ix1 p)
    refine of_bit (Eq.trans ?_ e)
    pointwise
  · have e := Host.reduce_andi_all _ _ _ _ _ hTop (ix1 p)
    rcases IntOp.ori_eq_one.1 e with e | e
    · refine Or.inl (of_bit (Eq.trans ?_ e))
      pointwise
    · refine Or.inr (of_bit (Eq.trans ?_ e))
      pointwise

end Cert.Domain

end
-- ==== Proof.Clear.lean ====
/- The splitting of a table entry into a high part and the rest: multiply by 65537 and subtract, stepping back when the
   result exceeds the entry. Over the ideal floats the high part is the whole entry. -/
module

public import proofs.«01_k».proof.Proof.Lookup

@[expose] public section

noncomputable section

namespace Cert.Clear

open Idealize.ShloMosaic

/-- The multiple of the entry minus the multiple's excess over the entry. -/
def around (x : EReal) : EReal :=
  x * Ideal.ofBits .f32 0x47800080#32 - (x * Ideal.ofBits .f32 0x47800080#32 - x)

/-- The high part: `around` the entry, or `around` a slightly smaller one when the first exceeds the entry. -/
def high (x : EReal) : EReal :=
  if max x (-x) < max (around x) (-around x) then around (around x * Ideal.ofBits .f32 0x3F7F0000#32) else around x

/-- Around a real is the real itself. -/
theorem around_real (r : ℝ) : around (r : EReal) = (r : EReal) := by
  obtain ⟨s, hs⟩ := Lookup.lit_split
  unfold around
  rw [hs, ← EReal.coe_mul, ← EReal.coe_sub, ← EReal.coe_sub, sub_sub_cancel]

/-- The high part of a real is the real itself. -/
theorem high_real (r : ℝ) : high (r : EReal) = (r : EReal) := by
  unfold high
  rw [around_real, if_neg (lt_irrefl _)]

end Cert.Clear

end
-- ==== Proof.Entry.lean ====
/- What the host operations before the launch leave in the four arrays that the kernel's windows stage, index by index,
   over the three arguments. -/
module

public import proofs.«01_k».proof.Proof.Gen.KernelIdeal.Frame
public import proofs.«01_k».proof.Proof.Clear
public import Idealize.ShloMosaic.Lib.StableHlo.ReadAt
public import Idealize.ShloMosaic.Lib.Pointwise

@[expose] public section

set_option maxRecDepth 16384

noncomputable section

namespace Cert.Entry

open Cert.KernelIdeal Cert.KernelIdeal.Gen Cert.Lookup Cert.Clear Idealize.ShloMosaic Idealize.ShloMosaic.TcCoe

variable (m : (ℓ : Loc nD τ sig) → Buf (Elt Ideal) ℓ) (c : Dev nD)

/-- The values argument. -/
def vals (p : Fin 1048576) : EReal := m (c, Proc.devRef .tc main_arg0) (ix1 p)

/-- The boundaries argument. -/
def bounds (k : Fin 19) : EReal := m (c, Proc.devRef .tc main_arg1) (ix1 k)

/-- Column `l` of the table argument. -/
def col (l : Fin 64) (j : Fin 20) : EReal := m (c, Proc.devRef .tc main_arg2) (ix2 j l)

/-- The array of ramp starts. -/
theorem start_at (j : Fin 20) : (V m c main_v25 (ix2 j 0) : EReal) = start (bounds m c) j.val := by
  obtain ⟨j, hj⟩ := j
  cases j with
  | zero =>
    show (V m c main_v25 (ix2 0 0) : EReal) = Ideal.ofBits .f32 0xF2177617#32
    unfold V
    after_reads_at
    after_reads_at
  | succ k =>
    rw [start, dif_pos (by omega)]
    unfold V
    after_reads_at
    after_reads_at
    rw [dif_neg (by omega)]
    rfl

/-- The array of slopes. -/
theorem rate_at (j : Fin 20) : (V m c main_v34 (ix2 j 0) : EReal) = rate (bounds m c) j.val := by
  obtain ⟨j, hj⟩ := j
  cases j with
  | zero =>
    show (V m c main_v34 (ix2 0 0) : EReal) = (1 : EReal)
    unfold V
    after_reads_at
    after_reads_at
  | succ k =>
    rw [rate]
    by_cases hk : k < 18
    · rw [dif_pos hk]
      unfold V
      after_reads_at
      rw [dif_neg (by omega), dif_pos (by omega)]
      after_reads_at
      simp only [bounds, Nat.add_sub_cancel, Nat.add_comm 1 k]
    · obtain rfl : k = 18 := by omega
      rw [dif_neg hk]
      show (V m c main_v34 (ix2 19 0) : EReal) = Ideal.ofBits .f32 0x7149F2CA#32
      unfold V
      after_reads_at
      after_reads_at

/-- The values, in 64 rows. -/
theorem vals_at (t : Fin 64) (r : Fin 16384) :
    (V m c main_v35 (ix3 t 0 r) : EReal) = vals m c ⟨t.val * 16384 + r.val, by omega⟩ := by
  unfold V
  after_reads_at
  rfl

/-- The array of the table's differences. -/
theorem step_at (j : Fin 20) (l : Fin 64) : (V m c main_v4 (ix2 j l) : EReal) = step (col m c l) j.val := by
  obtain ⟨j, hj⟩ := j
  cases j with
  | zero =>
    show (V m c main_v4 (ix2 0 l) : EReal) = col m c l 0
    unfold V
    after_reads_at
    rfl
  | succ k =>
    rw [step, dif_pos (by omega)]
    unfold V
    after_reads_at
    rw [dif_neg (by omega)]
    simp only [col, Nat.add_sub_cancel, Nat.add_comm 1 k]

/-- The array of high parts. -/
theorem high_at (j : Fin 20) (l : Fin 64) : (V m c main_v18 (ix2 j l) : EReal) = high (V m c main_v4 (ix2 j l)) := by
  unfold V
  after_reads_at
  after_reads_at
  rfl

/-- The first twenty rows of the kernel's table are the high parts. -/
theorem table_first (j : Fin 20) (l : Fin 64) :
    (V m c main_v22 (ix2 ⟨j.val, by omega⟩ l) : EReal) = V m c main_v18 (ix2 j l) := by
  unfold V
  after_reads_at
  after_reads_at
  after_reads_at

/-- The second twenty are the differences without their high parts. -/
theorem table_second (j : Fin 20) (l : Fin 64) :
    (V m c main_v22 (ix2 ⟨j.val + 20, by omega⟩ l) : EReal) = @HSub.hSub EReal EReal EReal _ (V m c main_v4 (ix2 j l)) (V m c main_v18 (ix2 j l)) := by
  unfold V
  after_reads_at
  after_reads_at
  rw [dif_neg (by omega), dif_pos (by omega)]
  after_reads_at
  simp only [Nat.add_sub_cancel]

/-- The last twenty are the high parts again. -/
theorem table_third (j : Fin 20) (l : Fin 64) :
    (V m c main_v22 (ix2 ⟨j.val + 20 + 20, by omega⟩ l) : EReal) = V m c main_v18 (ix2 j l) := by
  unfold V
  after_reads_at
  after_reads_at
  rw [dif_neg (by omega), dif_neg (by omega)]
  after_reads_at
  simp only [Nat.add_sub_cancel]

end Cert.Entry

end
-- ==== Proof.Block.lean ====
/- What one block of the kernel computes from the arrays before the launch, and what the whole result holds. -/
module

public import proofs.«01_k».proof.Proof.Gen.KernelIdeal.Value
public import proofs.«01_k».proof.Proof.Entry
public import Idealize.ShloMosaic.Lib.Pipeline.ValueKit
public import Idealize.ShloMosaic.Lib.Pointwise

@[expose] public section

set_option maxRecDepth 16384

noncomputable section

namespace Cert.Block

open Cert.KernelIdeal Cert.KernelIdeal.Gen Cert.Lookup Cert.Ramp Cert.Clear Cert.Entry Idealize.ShloMosaic
  Idealize.ShloMosaic.TcCoe

/-! ## The sum over sixty rows -/

/-- A sum over sixty is three sums over twenty. -/
theorem sum_sixty (f : Fin 60 → EReal) :
    ∑ x, f x = ∑ j : Fin 20, (f ⟨j.val, by omega⟩ + f ⟨j.val + 20, by omega⟩ + f ⟨j.val + 20 + 20, by omega⟩) := by
  rw [Finset.sum_add_distrib, Finset.sum_add_distrib, show (∑ x, f x) = ∑ x : Fin (20 + 20 + 20), f x from rfl,
    Fin.sum_univ_add, Fin.sum_univ_add]
  refine congrArg₂ (· + ·) (congrArg₂ (· + ·) ?_ ?_) ?_ <;>
    exact Finset.sum_congr rfl fun j _ => congrArg f (Fin.ext (by simp only [Fin.val_castAdd, Fin.val_natAdd] <;> omega))

/-- A clipped ramp against the high part, then against the rest of the step, then the ramp's own rest against the high
    part: together the ramp against the step. -/
theorem three_terms (x : EReal) {s : EReal} (hs : ∃ r : ℝ, s = (r : EReal)) :
    clip x * high s + clip x * (s - high s) + (clip x - clip x) * high s = clip x * s := by
  obtain ⟨r, rfl⟩ := hs
  rw [high_real, ← clip_coe x, ← EReal.coe_sub, ← EReal.coe_sub, sub_self, sub_self, EReal.coe_zero, mul_zero, zero_mul,
    add_zero, add_zero]

/-- One block, index by index: twenty clipped ramps, each against its three rows of the table. -/
theorem payload_at (x : FVec Ideal S1x1x16384 .f32) (lo sc : FVec Ideal S20x1 .f32) (tab : FVec Ideal S60x64 .bf16)
    (r : Fin 16384) (l : Fin 64) (u : Fin 20 → EReal)
    (hu : ∀ j, u j = @HMul.hMul EReal EReal EReal _ (@HSub.hSub EReal EReal EReal _ (x (ix3 0 0 r)) (lo (ix2 j 0))) (sc (ix2 j 0))) :
    (k0_pay1 (F := Ideal) x lo sc tab (ix2 r l) : EReal)
      = ∑ j : Fin 20, (clip (u j) * (tab (ix2 ⟨j.val, by omega⟩ l) : EReal) + clip (u j) * (tab (ix2 ⟨j.val + 20, by omega⟩ l) : EReal)
          + (clip (u j) - clip (u j)) * (tab (ix2 ⟨j.val + 20 + 20, by omega⟩ l) : EReal)) := by
  pointwise [k0_pay1]
  rw [sum_sixty]
  refine Finset.sum_congr rfl fun j _ => ?_
  rw [dif_pos j.isLt, dif_neg (by simp only; omega), dif_pos (by simp only; omega),
      dif_neg (by simp only; omega), dif_neg (by simp only; omega)]
  simp only [Nat.add_sub_cancel, Fin.eta, hu, clip]

/-! ## Where the windows read and write -/

theorem index0 : ∀ t : Fin cfg0.N, win0_0.index t = ![t.val, 0, 0] := by decide +kernel
theorem index1 : ∀ t : Fin cfg0.N, win0_1.index t = ![0, 0] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![t.val, 0] := by decide +kernel

/-- Row `r` of block `t` is a row of the array. -/
theorem row_lt (t : Fin cfg0.N) (r : Fin 16384) : t.val * 16384 + r.val < 1048576 := by
  have : t.val < 64 := t.isLt
  omega

variable (m : (ℓ : Loc nD τ sig) → Buf (Elt Ideal) ℓ) (c : Dev nD)

/-- The block of values at a point of the grid is a row of the array of values. -/
theorem block0 (t : Fin cfg0.N) (r : Fin 16384) :
    (iblk m c 0 t (ix3 0 0 r) : EReal) = vals m c ⟨t.val * 16384 + r.val, row_lt t r⟩ := by
  refine Eq.trans ?_ (vals_at m c t r)
  blk_ext [iblk, V, index0 t]

/-- The block of starts is the whole array of starts. -/
theorem block1 (t : Fin cfg0.N) (j : Fin 20) : (iblk m c 1 t (ix2 j 0) : EReal) = start (bounds m c) j.val := by
  refine Eq.trans ?_ (start_at m c j)
  blk_ext [iblk, V, index1 t]

/-- The block of slopes is the whole array of slopes. -/
theorem block2 (t : Fin cfg0.N) (j : Fin 20) : (iblk m c 2 t (ix2 j 0) : EReal) = rate (bounds m c) j.val := by
  refine Eq.trans ?_ (rate_at m c j)
  blk_ext [iblk, V, index2 t]

/-- The block of the table is the whole array. -/
theorem block3 (t : Fin cfg0.N) (x : Fin 60) (l : Fin 64) : (iblk m c 3 t (ix2 x l) : EReal) = V m c main_v22 (ix2 x l) := by
  blk_ext [iblk, V, index3 t]

/-- The block of the result at a point of the grid is 16384 of its rows. -/
theorem block4 (t : Fin cfg0.N) (r : Fin 16384) (l : Fin 64) :
    ((View.whole main_v36).slice (win0_4.rect t)).emb (ix2 r l)
      = ix2 ⟨t.val * 16384 + r.val, row_lt t r⟩ l := by
  blk_ext [index4 t]

/-! ## The kernel's table, by thirds -/

theorem third1 (t : Fin cfg0.N) (j : Fin 20) (l : Fin 64) :
    (iblk m c 3 t (ix2 ⟨j.val, by omega⟩ l) : EReal) = high (step (col m c l) j.val) := by
  rw [block3, table_first, high_at, step_at]

theorem third2 (t : Fin cfg0.N) (j : Fin 20) (l : Fin 64) :
    (iblk m c 3 t (ix2 ⟨j.val + 20, by omega⟩ l) : EReal)
      = step (col m c l) j.val - high (step (col m c l) j.val) := by
  rw [block3, table_second, high_at, step_at]

theorem third3 (t : Fin cfg0.N) (j : Fin 20) (l : Fin 64) :
    (iblk m c 3 t (ix2 ⟨j.val + 20 + 20, by omega⟩ l) : EReal) = high (step (col m c l) j.val) := by
  rw [block3, table_third, high_at, step_at]

/-! ## The block and the array -/

/-- The lookup at every row and column. -/
def result : FVec Ideal S1048576x64 .f32 := fun i => lookup (bounds m c) (col m c (i 1)) (vals m c (i 0))

/-- The whole result: every row and column of it is the lookup. -/
theorem result_eq (h : Fit (vals m c) (bounds m c) (col m c)) : (dats m 0 c).arrAt 4 cfg0.N = result m c := by
  refine (dats m 0 c).arrAt_eq_of_covers 4 _ (by decide +kernel) fun t hf y => ?_
  blk_simp
  rw [after0_4]
  frame_out
  idx_vars y
  refine (payload_at _ _ _ _ y0 y1 (fun j : Fin 20 => (vals m c ⟨t.val * 16384 + y0.val, row_lt t y0⟩ - start (bounds m c) j.val) * rate (bounds m c) j.val)
    fun j => ?_).trans ?_
  · rw [block0, block1, block2]
  · rw [block4]
    refine Eq.trans (Finset.sum_congr rfl fun j _ => ?_)
      (sum_ramps_lookup (h.tame ⟨t.val * 16384 + y0.val, row_lt t y0⟩) (col m c y1) (h.real y1))
    rw [third1, third2, third3]
    exact three_terms _ (step_real _ (h.real y1) _)

end Cert.Block

end
-- ==== Proof.Words.lean ====
/- The 32-bit words that the reference's indices go through: a count, its clip, its predecessor. -/
module

public import Idealize.ShloMosaic.Lib.Pointwise

@[expose] public section

noncomputable section

namespace Cert.Words

open Idealize.ShloMosaic

/-- Adding the widened bits of a decided proposition counts where it holds. -/
theorem fold_count {ι : Type} [DecidableEq ι] (P : ι → Prop) [DecidablePred P] (s : Finset ι) :
    Finset.fold IntOp.addi (0#32) (fun x => BitVec.setWidth 32 (BitVec.ofBool (decide (P x)))) s
      = BitVec.ofNat 32 (s.filter P).card := by
  induction s using Finset.induction with
  | empty => rfl
  | insert a s ha ih =>
    rw [Finset.fold_insert ha, ih, Finset.filter_insert]
    by_cases hP : P a
    · rw [if_pos hP, Finset.card_insert_of_notMem (fun h => ha (Finset.mem_filter.mp h).1), decide_eq_true hP, Nat.add_comm,
        BitVec.ofNat_add]
      rfl
    · rw [if_neg hP, decide_eq_false hP]
      show 0#32 + _ = _
      rw [BitVec.zero_add]

/-- A fold over one index is one step. -/
theorem fold_one {α : Type} (op : α → α → α) [Std.Commutative op] [Std.Associative op] (z : α) (f : Fin 1 → α) :
    Finset.fold op z f Finset.univ = op (f 0) z := by
  rw [show (Finset.univ : Finset (Fin 1)) = {0} from rfl, Finset.fold_singleton]

/-- Clipping a count of at most 19 between 0 and 19 changes nothing. -/
theorem clip_count {k : ℕ} (hk : k ≤ 19) :
    IntOp.minsi 19#32 (IntOp.maxsi 0#32 (BitVec.ofNat 32 k)) = BitVec.ofNat 32 k := by
  have : ∀ k : Fin 20, IntOp.minsi 19#32 (IntOp.maxsi 0#32 (BitVec.ofNat 32 k.val)) = BitVec.ofNat 32 k.val := by decide
  exact this ⟨k, by omega⟩

/-- Clipping a count between 1 and 18 to that range changes nothing. -/
theorem clip_inner {i : ℕ} (hi : i < 18) :
    IntOp.minsi 18#32 (IntOp.maxsi 1#32 (BitVec.ofNat 32 (i + 1))) = BitVec.ofNat 32 (i + 1) := by
  have : ∀ i : Fin 18, IntOp.minsi 18#32 (IntOp.maxsi 1#32 (BitVec.ofNat 32 (i.val + 1))) = BitVec.ofNat 32 (i.val + 1) := by decide
  exact this ⟨i, hi⟩

/-- The predecessor's word. -/
theorem pred_word {i : ℕ} (hi : i < 18) : IntOp.subi (BitVec.ofNat 32 (i + 1)) 1#32 = BitVec.ofNat 32 i := by
  have : ∀ i : Fin 18, IntOp.subi (BitVec.ofNat 32 (i.val + 1)) 1#32 = BitVec.ofNat 32 i.val := by decide
  exact this ⟨i, hi⟩

/-- A small word is not negative. -/
theorem not_neg {i : ℕ} (hi : i < 19) : IntOp.cmpi .slt (BitVec.ofNat 32 i) 0#32 = 0#1 := by
  have : ∀ i : Fin 19, IntOp.cmpi .slt (BitVec.ofNat 32 i.val) 0#32 = 0#1 := by decide
  exact this ⟨i, hi⟩

/-- A word below 19 is in a range up to 18. -/
theorem in_range18 {i : ℕ} (hi : i < 19) :
    IntOp.andi (IntOp.andi (IntOp.cmpi .sge (BitVec.ofNat 32 i) 0#32) (IntOp.cmpi .sle (BitVec.ofNat 32 i) 18#32)) 1#1 = 1#1 := by
  have : ∀ i : Fin 19, IntOp.andi (IntOp.andi (IntOp.cmpi .sge (BitVec.ofNat 32 i.val) 0#32)
    (IntOp.cmpi .sle (BitVec.ofNat 32 i.val) 18#32)) 1#1 = 1#1 := by decide
  exact this ⟨i, hi⟩

/-- A word below 19 is in a range up to 19. -/
theorem in_range19 {i : ℕ} (hi : i < 19) :
    IntOp.andi (IntOp.andi (IntOp.cmpi .sge (BitVec.ofNat 32 i) 0#32) (IntOp.cmpi .sle (BitVec.ofNat 32 i) 19#32)) 1#1 = 1#1 := by
  have : ∀ i : Fin 19, IntOp.andi (IntOp.andi (IntOp.cmpi .sge (BitVec.ofNat 32 i.val) 0#32)
    (IntOp.cmpi .sle (BitVec.ofNat 32 i.val) 19#32)) 1#1 = 1#1 := by decide
  exact this ⟨i, hi⟩

/-- A count between 1 and 18 is an inner one. -/
theorem inner_word {i : ℕ} (hi : i < 18) :
    IntOp.andi (IntOp.cmpi .sgt (BitVec.ofNat 32 (i + 1)) 0#32) (IntOp.cmpi .slt (BitVec.ofNat 32 (i + 1)) 19#32) = 1#1 := by
  have : ∀ i : Fin 18, IntOp.andi (IntOp.cmpi .sgt (BitVec.ofNat 32 (i.val + 1)) 0#32)
    (IntOp.cmpi .slt (BitVec.ofNat 32 (i.val + 1)) 19#32) = 1#1 := by decide
  exact this ⟨i, hi⟩

/-- The count 0 is not an inner one. -/
theorem outer_first : IntOp.andi (IntOp.cmpi .sgt 0#32 0#32) (IntOp.cmpi .slt 0#32 19#32) = 0#1 := by decide

/-- The count 19 is not an inner one. -/
theorem outer_last : IntOp.andi (IntOp.cmpi .sgt 19#32 0#32) (IntOp.cmpi .slt 19#32 19#32) = 0#1 := by decide

/-- The choice by a bit that is 1. -/
theorem select_one {α : Type} (a b : α) : Scalar.select 1#1 a b = a := rfl

/-- The choice by a bit that is 0. -/
theorem select_zero {α : Type} (a b : α) : Scalar.select 0#1 a b = b := rfl

end Cert.Words

end
-- ==== Proof.Steps.lean ====
/- The reference's float steps over any arrays, read at an index: a difference, the test against the threshold, the
   clipped fraction, and the last selection. -/
module

public import proofs.«01_k».proof.Proof.Gen.ReferenceIdeal
public import proofs.«01_k».proof.Proof.Ramp
public import proofs.«01_k».proof.Proof.Words
public import Idealize.ShloMosaic.Lib.Pointwise
public import Idealize.ShloMosaic.Lib.Pointwise.IndexBridge
public import Idealize.ShloMosaic.Lib.Routing.Ops

@[expose] public section

set_option maxRecDepth 16384

noncomputable section

namespace Cert.Steps

open Cert.ReferenceIdeal Cert.ReferenceIdeal.Facts Cert.ReferenceIdeal.Gen Cert.Ramp Cert.Words Idealize.ShloMosaic

/-- A difference at an index. -/
theorem sub_at (a b : FVec Ideal S1048576 .f32) (p : Fin 1048576) {x y : EReal} (ha : a (ix1 p) = x) (hb : b (ix1 p) = y) :
    (subf a b (ix1 p) : EReal) = x - y := by
  subst ha hb
  rfl

/-- The test whether a width is below the threshold, at an index. -/
theorem small_word (w : FVec Ideal S1048576 .f32) (p : Fin 1048576) {x : EReal} (hw : w (ix1 p) = x) :
    cmpf .olt (Host.absf w) (broadcastInDim S1048576 ![] bcast_S_S1048576 (constant S_ .f32 0x322BCC77#32)) (ix1 p)
      = BitVec.ofBool (decide (max x (-x) < Ideal.ofBits .f32 0x322BCC77#32)) := by
  subst hw
  pointwise
  rfl

/-- The clipped fraction where the width is not small, at an index. -/
theorem frac_word (s : IVec S1048576 1) (v lo w : FVec Ideal S1048576 .f32) (p : Fin 1048576) {x y z : EReal}
    (hs : s (ix1 p) = 0#1) (hv : v (ix1 p) = x) (hlo : lo (ix1 p) = y) (hw : w (ix1 p) = z) :
    (select s (broadcastInDim S1048576 ![] bcast_S_S1048576 (id (constant (F := Ideal) S_ .f32 0x3F000000#32)))
      (minimumf (broadcastInDim S1048576 ![] bcast_S_S1048576 (id (constant (F := Ideal) S_ .f32 0x3F800000#32)))
        (maximumf (broadcastInDim S1048576 ![] bcast_S_S1048576 (id (constant (F := Ideal) S_ .f32 0x00000000#32)))
          (Host.divf (subf v lo)
            (select s (broadcastInDim S1048576 ![] bcast_S_S1048576 (id (constant (F := Ideal) S_ .f32 0x3F800000#32))) w)))) (ix1 p) : EReal)
      = clip (Ideal.div (x - y) z) := by
  subst hv hlo hw
  pointwise
  rw [hs, select_zero, select_zero]
  show min (Ideal.ofBits .f32 0x3F800000#32) (max (Ideal.ofBits .f32 0x00000000#32) _) = min 1 (max 0 _)
  rw [Ideal.ofBits_one_f32, Ideal.ofBits_zero_f32]

/-- A row of a table taken at an index. -/
theorem take_row (T : FVec Ideal S20x64 .f32) (idx : IVec S1048576x1 32) {p : Fin 1048576} {k : ℕ} (hk : k < 20)
    (h : idx (ix2 p 0) = BitVec.ofNat 32 k) (l : Fin 64) :
    Host.gather gather_S20x64_S1048576x1_S1048576x64_1_0_n_n_0_1_164 T idx (ix2 p l) = T (ix2 ⟨k, hk⟩ l) := by
  rw [ix2_eq_valueIdx, Routing.gather_row _ rfl rfl rfl rfl rfl _ idx p l ⟨k, hk⟩ (by rw [← ix2_eq_valueIdx]; exact h)
    (by omega), ← ix2_eq_valueIdx]

/-- The last selection: between the interpolation of two taken rows, the first row and the last. -/
def assembled (counts : IVec S1048576 32) (frac : FVec Ideal S1048576 .f32) (low up : IVec S1048576x1 32)
    (T : FVec Ideal S20x64 .f32) : FVec Ideal S1048576x64 .f32 :=
  select (broadcastInDim S1048576x64 ![0, 1] bcast_S1048576x1_S1048576x64_0_1 (broadcastInDim S1048576x1 ![0]
    bcast_S1048576_S1048576x1_0 (andi (cmpi .sgt counts (broadcastInDim S1048576 ![] bcast_S_S1048576 (constantI S_ 32
    0#32))) (cmpi .slt counts (broadcastInDim S1048576 ![] bcast_S_S1048576 (constantI S_ 32 19#32)))))) (addf (mulf
    (broadcastInDim S1048576x64 ![0, 1] bcast_S1048576x1_S1048576x64_0_1 (broadcastInDim S1048576x1 ![0]
    bcast_S1048576_S1048576x1_0 (subf (broadcastInDim S1048576 ![] bcast_S_S1048576 (constant S_ .f32 0x3F800000#32))
    frac))) (select (broadcastInDim S1048576x64 ![0] bcast_S1048576_S1048576x64_0 (Host.reduce IntOp.andi (andi (cmpi
    .sge low (broadcastInDim S1048576x1 ![] bcast_S_S1048576x1 (constantI S_ 32 0#32))) (cmpi .sle low (broadcastInDim
    S1048576x1 ![0, 1] bcast_S1x1_S1048576x1_0_1 (broadcastInDim S1x1 ![1] bcast_S1_S1x1_1 (constantI S1 32 19#32)))))
    (constantI S_ 1 1#1) reducesTo_S1048576x1_S1048576_d1 h_S_)) (Host.gather
    gather_S20x64_S1048576x1_S1048576x64_1_0_n_n_0_1_164 T low) (broadcastInDim S1048576x64 ![] bcast_S_S1048576x64
    (constant S_ .f32 0x7FC00000#32)))) (mulf (broadcastInDim S1048576x64 ![0, 1] bcast_S1048576x1_S1048576x64_0_1
    (broadcastInDim S1048576x1 ![0] bcast_S1048576_S1048576x1_0 frac)) (select (broadcastInDim S1048576x64 ![0]
    bcast_S1048576_S1048576x64_0 (Host.reduce IntOp.andi (andi (cmpi .sge up (broadcastInDim S1048576x1 ![]
    bcast_S_S1048576x1 (constantI S_ 32 0#32))) (cmpi .sle up (broadcastInDim S1048576x1 ![0, 1]
    bcast_S1x1_S1048576x1_0_1 (broadcastInDim S1x1 ![1] bcast_S1_S1x1_1 (constantI S1 32 19#32))))) (constantI S_ 1
    1#1) reducesTo_S1048576x1_S1048576_d1 h_S_)) (Host.gather gather_S20x64_S1048576x1_S1048576x64_1_0_n_n_0_1_164 T
    up) (broadcastInDim S1048576x64 ![] bcast_S_S1048576x64 (constant S_ .f32 0x7FC00000#32))))) (select
    (broadcastInDim S1048576x64 ![0, 1] bcast_S1048576x1_S1048576x64_0_1 (broadcastInDim S1048576x1 ![0]
    bcast_S1048576_S1048576x1_0 (cmpi .eq counts (broadcastInDim S1048576 ![] bcast_S_S1048576 (constantI S_ 32
    0#32))))) (broadcastInDim S1048576x64 ![0, 1] bcast_S1x64_S1048576x64_0_1 (broadcastInDim S1x64 ![1]
    bcast_S64_S1x64_1 (shapeCast _ (extractStridedSlice S1x64 ![0, 0] T slices_S20x64_S1x64_0_0)
    shapeCasts_S1x64_S64))) (broadcastInDim S1048576x64 ![0, 1] bcast_S1x64_S1048576x64_0_1 (broadcastInDim S1x64 ![1]
    bcast_S64_S1x64_1 (shapeCast _ (extractStridedSlice S1x64 ![19, 0] T slices_S20x64_S1x64_19_0)
    shapeCasts_S1x64_S64))))

variable (counts : IVec S1048576 32) (frac : FVec Ideal S1048576 .f32) (low up : IVec S1048576x1 32)
  (T : FVec Ideal S20x64 .f32) (p : Fin 1048576) (l : Fin 64)

/-- Where the count is 0 the selection is the first row. -/
theorem assembled_first (hc : counts (ix1 p) = 0#32) :
    assembled counts frac low up T (ix2 p l) = T (ix2 0 l) := by
  pointwise [assembled]
  rw [hc, outer_first, select_zero]
  rfl

/-- Where the count is 19 the selection is the last row. -/
theorem assembled_last (hc : counts (ix1 p) = 19#32) :
    assembled counts frac low up T (ix2 p l) = T (ix2 19 l) := by
  pointwise [assembled]
  rw [hc, outer_last, select_zero]
  rfl

/-- Where the count is between 1 and 18 the selection is the interpolation of the rows before and at the count. -/
theorem assembled_inner {i : ℕ} (hi : i < 18) (hc : counts (ix1 p) = BitVec.ofNat 32 (i + 1))
    (hlow : low (ix2 p 0) = BitVec.ofNat 32 i) (hup : up (ix2 p 0) = BitVec.ofNat 32 (i + 1)) {a x y : EReal}
    (hf : frac (ix1 p) = a) (hx : T (ix2 ⟨i, by omega⟩ l) = x) (hy : T (ix2 ⟨i + 1, by omega⟩ l) = y) :
    (assembled counts frac low up T (ix2 p l) : EReal) = (1 - a) * x + a * y := by
  pointwise [assembled]
  rw [hc, inner_word hi, select_one, fold_one, fold_one, hlow, hup, in_range19 (by omega), in_range19 (by omega), select_one,
    select_one, take_row T low (by omega) hlow, take_row T up (by omega) hup, hf, hx, hy]

end Cert.Steps

end
-- ==== Proof.Reference.lean ====
/- What the reference computes, one array after another: the counts, the indices made of them, the taken boundaries, the
   fraction, the result. -/
module

public import proofs.«01_k».proof.Proof.Gen.ReferenceIdeal.Run
public import proofs.«01_k».proof.Proof.Lookup
public import proofs.«01_k».proof.Proof.Words
public import proofs.«01_k».proof.Proof.Steps
public import Idealize.ShloMosaic.Lib.StableHlo.ReadAt
public import Idealize.ShloMosaic.Lib.Pointwise
public import Idealize.ShloMosaic.Lib.Pointwise.IndexBridge
public import Idealize.ShloMosaic.Lib.Routing.Ops
public import Idealize.ShloMosaic.Lib.Routing.OpsSearch

@[expose] public section

set_option maxRecDepth 16384

noncomputable section

namespace Cert.Reference

open Cert.ReferenceIdeal Cert.ReferenceIdeal.Gen Cert.ReferenceIdeal.Value Cert.Lookup Cert.Ramp Cert.Words Cert.Steps
open Idealize.ShloMosaic Idealize.ShloMosaic.TcCoe
open Idealize.ShloMosaic.StableHlo

variable (V0 : Valuation τ sig (Elt Ideal))

/-- The values argument. -/
def vals (p : Fin 1048576) : EReal := V0 (Proc.devRef .tc main_arg0) (ix1 p)

/-- The boundaries argument. -/
def bounds (k : Fin 19) : EReal := V0 (Proc.devRef .tc main_arg1) (ix1 k)

/-- Column `l` of the table argument. -/
def col (l : Fin 64) (j : Fin 20) : EReal := V0 (Proc.devRef .tc main_arg2) (ix2 j l)

/-- The counts. -/
theorem count_at (p : Fin 1048576) : res_main_v7 V0 (ix1 p) = BitVec.ofNat 32 (count (bounds V0) (vals V0 p)) := by
  have hle : count (bounds V0) (vals V0 p) ≤ 19 := (Finset.card_le_univ _).trans (by simp)
  refine Eq.trans ?_ (clip_count hle)
  unfold res_main_v7
  clean_types
  pointwise
  refine congrArg (fun w => IntOp.minsi 19#32 (IntOp.maxsi 0#32 w)) ?_
  exact fold_count (fun x : Fin 19 => bounds V0 x < vals V0 p) Finset.univ

variable {V0} {p : Fin 1048576} {i : ℕ}

/-- The inner counts pass their clip. -/
theorem clipped_at (hi : i < 18) (hc : count (bounds V0) (vals V0 p) = i + 1) :
    res_main_v13 V0 (ix1 p) = BitVec.ofNat 32 (i + 1) := by
  have h7 := count_at V0 p
  rw [hc] at h7
  unfold res_main_v13
  clean_types
  pointwise [h7]
  exact clip_inner hi

/-- The index of the lower boundary. -/
theorem lower_index (hi : i < 18) (hc : count (bounds V0) (vals V0 p) = i + 1) :
    res_main_call2_v5 V0 (ix2 p 0) = BitVec.ofNat 32 i := by
  have h13 := clipped_at hi hc
  unfold res_main_call2_v5 res_main_v15
  clean_types
  pointwise [h13]
  rw [pred_word hi, not_neg (by omega), select_zero]

/-- The index of the upper boundary. -/
theorem upper_index (hi : i < 18) (hc : count (bounds V0) (vals V0 p) = i + 1) :
    res_main_call3_v5 V0 (ix2 p 0) = BitVec.ofNat 32 (i + 1) := by
  have h13 := clipped_at hi hc
  unfold res_main_call3_v5
  clean_types
  pointwise [h13]
  rw [not_neg (by omega), select_zero]

/-- The index of the lower row. -/
theorem lower_row (hi : i < 18) (hc : count (bounds V0) (vals V0 p) = i + 1) :
    res_main_call7_v5 V0 (ix2 p 0) = BitVec.ofNat 32 i := by
  have h13 := clipped_at hi hc
  unfold res_main_call7_v5 res_main_v28
  clean_types
  pointwise [h13]
  rw [pred_word hi, not_neg (by omega), select_zero]

/-- The index of the upper row. -/
theorem upper_row (hi : i < 18) (hc : count (bounds V0) (vals V0 p) = i + 1) :
    res_main_call8_v5 V0 (ix2 p 0) = BitVec.ofNat 32 (i + 1) := by
  have h13 := clipped_at hi hc
  unfold res_main_call8_v5
  clean_types
  pointwise [h13]
  rw [not_neg (by omega), select_zero]

/-- A boundary taken at an index. -/
theorem take_bound (idx : IVec S1048576x1 32) {k : ℕ} (hk : k < 19) (h : idx (ix2 p 0) = BitVec.ofNat 32 k) :
    (Host.gather gather_S19_S1048576x1_S1048576_n_0_n_n_0_1_1 (V0 (Proc.devRef .tc main_arg1)) idx (ix1 p) : EReal)
      = bounds V0 ⟨k, hk⟩ := by
  rw [ix1_eq_valueIdx, Routing.take_ap _ rfl rfl rfl rfl _ idx p hk (by omega) (by rw [← ix2_eq_valueIdx]; exact h), ← ix1_eq_valueIdx]
  rfl

/-- The lower boundary. -/
theorem lower_at (hi : i < 18) (hc : count (bounds V0) (vals V0 p) = i + 1) :
    (res_main_v16 V0 (ix1 p) : EReal) = bounds V0 ⟨i, by omega⟩ := by
  unfold res_main_v16
  clean_types
  pointwise
  rw [fold_one, lower_index hi hc, in_range18 (by omega), select_one, take_bound _ (by omega) (lower_index hi hc)]

/-- The upper boundary less the lower one. -/
theorem width_at (hi : i < 18) (hc : count (bounds V0) (vals V0 p) = i + 1) :
    @Eq EReal (res_main_v18 V0 (ix1 p)) (bounds V0 ⟨i + 1, by omega⟩ - bounds V0 ⟨i, by omega⟩) := by
  refine sub_at _ _ p ?_ (lower_at hi hc)
  clean_types
  pointwise
  rw [fold_one, upper_index hi hc, in_range18 (by omega), select_one, take_bound _ (by omega) (upper_index hi hc)]

/-- No width is below the threshold. -/
theorem small_at (h : Tame (bounds V0) (vals V0 p)) (hi : i < 18) (hc : count (bounds V0) (vals V0 p) = i + 1) :
    res_main_v21 V0 (ix1 p) = 0#1 := by
  refine (small_word _ p (width_at hi hc)).trans ?_
  exact congrArg BitVec.ofBool (decide_eq_false (not_lt.mpr (le_max_of_le_left (h.gap i hi))))

/-- The fraction. -/
theorem frac_at (h : Tame (bounds V0) (vals V0 p)) (hi : i < 18) (hc : count (bounds V0) (vals V0 p) = i + 1) :
    (res_main_v26 V0 (ix1 p) : EReal) = frac (bounds V0) (vals V0 p) i hi :=
  frac_word _ _ _ _ p (small_at h hi hc) rfl (lower_at hi hc) (width_at hi hc)

/-- The result, index by index: the lookup. -/
theorem result_at (h : Fit (vals V0) (bounds V0) (col V0)) (p : Fin 1048576) (l : Fin 64) :
    (val2 V0 (Proc.devRef .tc main_v51) (ix2 p l) : EReal) = lookup (bounds V0) (col V0 l) (vals V0 p) := by
  have h7 := count_at V0 p
  have hle := (count_spec (h.tame p).mono (vals V0 p)).1
  unfold lookup
  rw [val2_main_v51]
  rcases hc : count (bounds V0) (vals V0 p) with _ | i
  · rw [hc] at h7
    exact assembled_first _ _ _ _ _ p l h7
  · rw [hc] at h7
    by_cases hi : i < 18
    · rw [entry, dif_pos hi]
      exact assembled_inner _ _ _ _ _ p l hi h7 (lower_row hi hc) (upper_row hi hc) (frac_at (h.tame p) hi hc) rfl rfl
    · obtain rfl : i = 18 := by omega
      rw [entry, dif_neg hi]
      exact assembled_last _ _ _ _ _ p l h7

end Cert.Reference

end
-- ==== Proof.lean ====
/- The proof of the certificate: the frames, the rewrite the ideal pass made, and the equality of the kernel's result
   and the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_domain
public import proofs.«01_k».proof.Proof.Domain
public import proofs.«01_k».proof.Proof.Block
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's run terminates, keeps its arguments and leaves every semaphore at zero. -/
theorem reference_frame : Cert.quiescent_ReferenceIdeal := fun m g _ =>
  (θ_run _ _ _).mono (fun r h => ⟨fun c => (h c).2, sem_eq_zero_of_no_sems (by decide) r.2⟩)
    (Cert.ReferenceIdeal.Value.run m g)

/-- Where the precondition holds of one memory's arguments and another memory's arguments equal them, the reference's
    result over the second is the array of lookups over the first. -/
theorem result_agree (m : (ℓ : Loc Cert.KernelIdeal.nD Cert.KernelIdeal.τ Cert.KernelIdeal.sig) → Buf (Elt Ideal) ℓ)
    (c : Dev Cert.KernelIdeal.nD) (V0 : Valuation Cert.ReferenceIdeal.τ Cert.ReferenceIdeal.sig (Elt Ideal))
    (h : Cert.Lookup.Fit (Cert.Entry.vals m c) (Cert.Entry.bounds m c) (Cert.Entry.col m c))
    (h0 : Cert.Reference.vals V0 = Cert.Entry.vals m c) (h1 : Cert.Reference.bounds V0 = Cert.Entry.bounds m c)
    (h2 : Cert.Reference.col V0 = Cert.Entry.col m c) :
    Cert.ReferenceIdeal.Value.val2 V0 (Proc.devRef .tc Cert.ReferenceIdeal.main_v51) = Cert.Block.result m c := by
  funext i
  obtain ⟨p, l, rfl⟩ : ∃ (p : Fin 1048576) (l : Fin 64), i = ix2 p l := ⟨i 0, i 1, by ext k; fin_cases k <;> rfl⟩
  have hr := Cert.Reference.result_at (V0 := V0) (by rw [h0, h1, h2]; exact h) p l
  rw [h0, h1, h2] at hr
  exact hr

/-- Under the precondition the kernel's result is the reference's. -/
theorem algebraic : Cert.algebraic_KernelIdeal_ReferenceIdeal_pre_domain := fun m g m' g' hpre hagree => by
  have hfit := fun c => Cert.Domain.fit _ _ _ (hpre c)
  refine ⟨fun c => Cert.Block.result m c,
    (θ_run _ _ _).mono (fun r h c => ⟨(h c).1.trans (Cert.Block.result_eq m c (hfit c)), (h c).2⟩)
      (Cert.KernelIdeal.Value.run_blocks m g),
    (θ_run _ _ _).mono (fun r h c => ⟨(h c).1.trans ((Cert.ReferenceIdeal.Value.val2_main_v51 _).symm.trans
      (result_agree m c _ (hfit c) ?_ ?_ ?_)), (h c).2⟩) (Cert.ReferenceIdeal.Value.run m' g')⟩
  · exact funext fun p => congrFun (hagree c).1 (ix1 p)
  · exact funext fun k => congrFun (hagree c).2.1 (ix1 k)
  · exact funext fun l => funext fun j => congrFun (hagree c).2.2 (ix2 j l)

/-- The certificate. -/
theorem claim : Cert.Claim :=
  ⟨Cert.Kernel.Gen.facts, Cert.KernelIdeal.Gen.facts, Cert.ReferenceIdeal.Gen.facts, Cert.Pre_domain.Gen.facts,
    fun m ρ _ => Cert.Kernel.Gen.frame m ρ, fun m ρ _ => Cert.KernelIdeal.Gen.frame m ρ,
    fun m ρ _ => Cert.KernelIdeal.Gen.frame m ρ, reference_frame, fun m g _ => reference_frame m g trivial,
    IdealRules.bf16_pack.statement _, algebraic⟩

end Cert.Proof

end
